-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases_finite_gating [hPre_zero_biases_finite_gating : Cert.Pre_zero_biases_finite_gating.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_finite_gating.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_finite_gating [hPre_zero_biases_finite_gating : Cert.Pre_zero_biases_finite_gating.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_finite_gating.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_zero_biases_finite_gating [hKernelIdeal : Cert.KernelIdeal.Facts] [hPre_zero_biases_finite_gating : Cert.Pre_zero_biases_finite_gating.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_finite_gating m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_zero_biases_finite_gating [hReferenceIdeal : Cert.ReferenceIdeal.Facts] [hPre_zero_biases_finite_gating : Cert.Pre_zero_biases_finite_gating.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_finite_gating m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_zero_biases_finite_gating [hKernelIdeal : Cert.KernelIdeal.Facts] [hReferenceIdeal : Cert.ReferenceIdeal.Facts] [hPre_zero_biases_finite_gating : Cert.Pre_zero_biases_finite_gating.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_finite_gating m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_zero_biases_finite_gating : Cert.Pre_zero_biases_finite_gating.Facts),
    quiescent_Kernel (hKernel := hKernel)
    ∧ quiescent_KernelIdeal (hKernelIdeal := hKernelIdeal)
    ∧ quiescent_KernelIdeal_pre_zero_biases_finite_gating (hKernelIdeal := hKernelIdeal) (hPre_zero_biases_finite_gating := hPre_zero_biases_finite_gating)
    ∧ quiescent_ReferenceIdeal (hReferenceIdeal := hReferenceIdeal)
    ∧ quiescent_ReferenceIdeal_pre_zero_biases_finite_gating (hReferenceIdeal := hReferenceIdeal) (hPre_zero_biases_finite_gating := hPre_zero_biases_finite_gating)
    ∧ preserves_Kernel_KernelIdeal
    ∧ algebraic_KernelIdeal_ReferenceIdeal_pre_zero_biases_finite_gating (hKernelIdeal := hKernelIdeal) (hReferenceIdeal := hReferenceIdeal) (hPre_zero_biases_finite_gating := hPre_zero_biases_finite_gating)
-- ==== Pre_zero_biases_finite_gating.lean ====
abbrev S2048x1024 : Shape := ⟨2, ![2048, 1024]⟩
abbrev S_ : Shape := ⟨0, ![]⟩
abbrev S2x1024x16 : Shape := ⟨3, ![2, 1024, 16]⟩
abbrev S16x1024x256 : Shape := ⟨3, ![16, 1024, 256]⟩
abbrev S16x256 : Shape := ⟨2, ![16, 256]⟩
abbrev S16x256x1024 : Shape := ⟨3, ![16, 256, 1024]⟩
abbrev S16x1024 : Shape := ⟨2, ![16, 1024]⟩
abbrev S1024x1000 : Shape := ⟨2, ![1024, 1000]⟩
abbrev S1000 : Shape := ⟨1, ![1000]⟩

class Facts : Prop where
  bcast_S_S16x256 : S_.BroadcastsInDim S16x256 (![] : Fin 0 → Fin S16x256.rank)
  reducesTo_S16x256_S_d0_1 : S16x256.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1000 : S_.BroadcastsInDim S1000 (![] : Fin 0 → Fin S1000.rank)
  reducesTo_S1000_S_d0 : S1000.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2x1024x16 : S_.BroadcastsInDim S2x1024x16 (![] : Fin 0 → Fin S2x1024x16.rank)
  reducesTo_S2x1024x16_S_d0_1_2 : S2x1024x16.ReducesTo [0, 1, 2] S_

variable [Facts]

def fn_part1 {F : FTy → Type} [FloatOps F] (main_arg2 : FVec F S2x1024x16 .f32) (main_v15 : IVec S_ 1) : IVec S_ 1 :=
  let main_v16 : FVec F S2x1024x16 .f32 := Host.absf main_arg2
  let main_cst_6 : FVec F S_ .f32 := constant S_ .f32 0x7F800000#32
  let main_v17 : FVec F S2x1024x16 .f32 := broadcastInDim S2x1024x16 ![] bcast_S_S2x1024x16 main_cst_6
  let main_v18 : IVec S2x1024x16 1 := cmpf .olt main_v16 main_v17
  let main_c_7 : IVec S_ 1 := constantI S_ 1 1#1
  let main_v19 : IVec S_ 1 := (fun x v => Host.reduce IntOp.andi x v reducesTo_S2x1024x16_S_d0_1_2 h_S_) main_v18 main_c_7
  let main_v20 : IVec S_ 1 := andi main_v15 main_v19
  main_v20

def fn {F : FTy → Type} [FloatOps F] (main_arg0 : FVec F S2048x1024 .f32) (main_arg1 : IVec S_ 32) (main_arg2 : FVec F S2x1024x16 .f32) (main_arg3 : FVec F S16x1024x256 .f32) (main_arg4 : FVec F S16x256 .f32) (main_arg5 : FVec F S16x256x1024 .f32) (main_arg6 : FVec F S16x1024 .f32) (main_arg7 : FVec F S1024x1000 .f32) (main_arg8 : FVec F S1000 .f32) : IVec S_ 1 :=
  let main_cst : FVec F S_ .f32 := constant S_ .f32 0x00000000#32
  let main_v0 : FVec F S16x256 .f32 := broadcastInDim S16x256 ![] bcast_S_S16x256 main_cst
  let main_v1 : IVec S16x256 1 := cmpf .oeq main_arg4 main_v0
  let main_c : IVec S_ 1 := constantI S_ 1 1#1
  let main_v2 : IVec S_ 1 := (fun x v => Host.reduce IntOp.andi x v reducesTo_S16x256_S_d0_1 h_S_) main_v1 main_c
  let main_cst_0 : FVec F S_ .f32 := constant S_ .f32 0x00000000#32
  let main_v3 : FVec F S16x1024 .f32 := broadcastInDim S16x1024 ![] bcast_S_S16x1024 main_cst_0
  let main_v4 : IVec S16x1024 1 := cmpf .oeq main_arg6 main_v3
  let main_c_1 : IVec S_ 1 := constantI S_ 1 1#1
  let main_v5 : IVec S_ 1 := (fun x v => Host.reduce IntOp.andi x v reducesTo_S16x1024_S_d0_1 h_S_) main_v4 main_c_1
  let main_v6 : IVec S_ 1 := andi main_v2 main_v5
  let main_cst_2 : FVec F S_ .f32 := constant S_ .f32 0x00000000#32
  let main_v7 : FVec F S1000 .f32 := broadcastInDim S1000 ![] bcast_S_S1000 main_cst_2
  let main_v8 : IVec S1000 1 := cmpf .oeq main_arg8 main_v7
  let main_c_3 : IVec S_ 1 := constantI S_ 1 1#1
  let main_v9 : IVec S_ 1 := (fun x v => Host.reduce IntOp.andi x v reducesTo_S1000_S_d0 h_S_) main_v8 main_c_3
  let main_v10 : IVec S_ 1 := andi main_v6 main_v9
  let main_v11 : FVec F S2048x1024 .f32 := Host.absf main_arg0
  let main_cst_4 : FVec F S_ .f32 := constant S_ .f32 0x7F800000#32
  let main_v12 : FVec F S2048x1024 .f32 := broadcastInDim S2048x1024 ![] bcast_S_S2048x1024 main_cst_4
  let main_v13 : IVec S2048x1024 1 := cmpf .olt main_v11 main_v12
  let main_c_5 : IVec S_ 1 := constantI S_ 1 1#1
  let main_v14 : IVec S_ 1 := (fun x v => Host.reduce IntOp.andi x v reducesTo_S2048x1024_S_d0_1 h_S_) main_v13 main_c_5
  let main_v15 : IVec S_ 1 := andi main_v10 main_v14
  fn_part1 (F := F) main_arg2 main_v15
-- ==== Kernel.lean ====
abbrev S2048x1024 : Shape := ⟨2, ![2048, 1024]⟩
abbrev S_ : Shape := ⟨0, ![]⟩
abbrev S2x1024x16 : Shape := ⟨3, ![2, 1024, 16]⟩
abbrev S16x1024x256 : Shape := ⟨3, ![16, 1024, 256]⟩
abbrev S16x256 : Shape := ⟨2, ![16, 256]⟩
abbrev S16x256x1024 : Shape := ⟨3, ![16, 256, 1024]⟩
abbrev S16x1024 : Shape := ⟨2, ![16, 1024]⟩
abbrev S1024x1000 : Shape := ⟨2, ![1024, 1000]⟩
abbrev S1000 : Shape := ⟨1, ![1000]⟩
abbrev S1x1024x16 : Shape := ⟨3, ![1, 1024, 16]⟩
abbrev S1024x16 : Shape := ⟨2, ![1024, 16]⟩
abbrev S1024x16x256 : Shape := ⟨3, ![1024, 16, 256]⟩
abbrev S1024x4096 : Shape := ⟨2, ![1024, 4096]⟩
abbrev S4096x1024 : Shape := ⟨2, ![4096, 1024]⟩
abbrev S2048x1000 : Shape := ⟨2, ![2048, 1000]⟩
abbrev S2048x16 : Shape := ⟨2, ![2048, 16]⟩
abbrev S1x16 : Shape := ⟨2, ![1, 16]⟩
abbrev S256x1024 : Shape := ⟨2, ![256, 1024]⟩
abbrev S256x1000 : Shape := ⟨2, ![256, 1000]⟩
abbrev S256x16 : Shape := ⟨2, ![256, 16]⟩
abbrev S256x1 : Shape := ⟨2, ![256, 1]⟩
abbrev S256 : Shape := ⟨1, ![256]⟩
abbrev S1x256 : Shape := ⟨2, ![1, 256]⟩
abbrev S1 : Shape := ⟨1, ![1]⟩
abbrev S1x1 : Shape := ⟨2, ![1, 1]⟩
abbrev S16 : Shape := ⟨1, ![16]⟩
abbrev S1024x1024 : Shape := ⟨2, ![1024, 1024]⟩
abbrev S256x256 : Shape := ⟨2, ![256, 256]⟩

abbrev nBuf : Space → Nat
  | .hbm => 43
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S_, .i32⟩
  | .hbm, ⟨2, _⟩ => ⟨S2x1024x16, .f32⟩
  | .hbm, ⟨3, _⟩ => ⟨S16x1024x256, .f32⟩
  | .hbm, ⟨4, _⟩ => ⟨S16x256, .f32⟩
  | .hbm, ⟨5, _⟩ => ⟨S16x256x1024, .f32⟩
  | .hbm, ⟨6, _⟩ => ⟨S16x1024, .f32⟩
  | .hbm, ⟨7, _⟩ => ⟨S1024x1000, .f32⟩
  | .hbm, ⟨8, _⟩ => ⟨S1000, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x1024x16, .f32⟩
  | .hbm, ⟨31, _⟩ => ⟨S1024x16, .f32⟩
  | .hbm, ⟨32, _⟩ => ⟨S1024x16, .bf16⟩
  | .hbm, ⟨33, _⟩ => ⟨S1024x16x256, .f32⟩
  | .hbm, ⟨34, _⟩ => ⟨S1024x4096, .f32⟩
  | .hbm, ⟨35, _⟩ => ⟨S1024x4096, .bf16⟩
  | .hbm, ⟨36, _⟩ => ⟨S4096x1024, .f32⟩
  | .hbm, ⟨37, _⟩ => ⟨S4096x1024, .bf16⟩
  | .hbm, ⟨38, _⟩ => ⟨S1024x1000, .bf16⟩
  | .hbm, ⟨39, _⟩ => ⟨S2048x1000, .f32⟩
  | .hbm, ⟨40, _⟩ => ⟨S2048x16, .f32⟩
  | .hbm, ⟨41, _⟩ => ⟨S1x16, .f32⟩
  | .hbm, ⟨42, _⟩ => ⟨S16, .f32⟩
  | .local _ .vmem, ⟨0, _⟩ => ⟨S256x1024, .f32⟩
  | .local _ .vmem, ⟨1, _⟩ => ⟨S256x1024, .f32⟩
  | .local _ .vmem, ⟨2, _⟩ => ⟨S1024x16, .bf16⟩
  | .local _ .vmem, ⟨3, _⟩ => ⟨S1024x4096, .bf16⟩
  | .local _ .vmem, ⟨4, _⟩ => ⟨S4096x1024, .bf16⟩
  | .local _ .vmem, ⟨5, _⟩ => ⟨S1024x1000, .bf16⟩
  | .local _ .vmem, ⟨6, _⟩ => ⟨S256x1000, .f32⟩
  | .local _ .vmem, ⟨7, _⟩ => ⟨S256x1000, .f32⟩
  | .local _ .vmem, ⟨8, _⟩ => ⟨S256x16, .f32⟩
  | .local _ .vmem, ⟨9, _⟩ => ⟨S256x16, .f32⟩
  | .local _ .vmem, ⟨10, _⟩ => ⟨S1x16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_c_2 : Ref sig .tc := ⟨.hbm, 15, rfl⟩
abbrev main_v3 : Ref sig .tc := ⟨.hbm, 16, rfl⟩
abbrev main_c_3 : Ref sig .tc := ⟨.hbm, 17, rfl⟩
abbrev main_c_4 : Ref sig .tc := ⟨.hbm, 18, rfl⟩
abbrev main_v4 : Ref sig .tc := ⟨.hbm, 19, rfl⟩
abbrev main_c_5 : Ref sig .tc := ⟨.hbm, 20, rfl⟩
abbrev main_v5 : Ref sig .tc := ⟨.hbm, 21, rfl⟩
abbrev main_c_6 : Ref sig .tc := ⟨.hbm, 22, rfl⟩
abbrev main_c_7 : Ref sig .tc := ⟨.hbm, 23, rfl⟩
abbrev main_v6 : Ref sig .tc := ⟨.hbm, 24, rfl⟩
abbrev main_c_8 : Ref sig .tc := ⟨.hbm, 25, rfl⟩
abbrev main_c_9 : Ref sig .tc := ⟨.hbm, 26, rfl⟩
abbrev main_v7 : Ref sig .tc := ⟨.hbm, 27, rfl⟩
abbrev main_c_10 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_v19 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_48 : BitVec 32 := 0#32
  let v151 : BitVec 1 := Scalar.cmpi .eq arg0 c0_i32_48
  let v152 : BitVec 32 := Scalar.extui v151
  let c0_i32_49 : BitVec 32 := 0#32
  let v153 : BitVec 1 := Scalar.cmpi .ne v152 c0_i32_49
  v153

def k0_cond3 (i : grid0.Coords) : BitVec 1 :=
  let arg0 : BitVec 32 := BitVec.ofNat 32 (i 0).val
  let c0_i32_50 : BitVec 32 := 0#32
  let v154 : BitVec 1 := Scalar.cmpi .ne arg0 c0_i32_50
  let v155 : BitVec 32 := Scalar.extui v154
  let c0_i32_51 : BitVec 32 := 0#32
  let v156 : BitVec 1 := Scalar.cmpi .ne v155 c0_i32_51
  v156

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x1024 : Shape := ⟨2, ![2048, 1024]⟩
abbrev S_ : Shape := ⟨0, ![]⟩
abbrev S2x1024x16 : Shape := ⟨3, ![2, 1024, 16]⟩
abbrev S16x1024x256 : Shape := ⟨3, ![16, 1024, 256]⟩
abbrev S16x256 : Shape := ⟨2, ![16, 256]⟩
abbrev S16x256x1024 : Shape := ⟨3, ![16, 256, 1024]⟩
abbrev S16x1024 : Shape := ⟨2, ![16, 1024]⟩
abbrev S1024x1000 : Shape := ⟨2, ![1024, 1000]⟩
abbrev S1000 : Shape := ⟨1, ![1000]⟩
abbrev S1x1024x16 : Shape := ⟨3, ![1, 1024, 16]⟩
abbrev S1024x16 : Shape := ⟨2, ![1024, 16]⟩
abbrev S2048x16 : Shape := ⟨2, ![2048, 16]⟩
abbrev S2048x12 : Shape := ⟨2, ![2048, 12]⟩
abbrev S2048 : Shape := ⟨1, ![2048]⟩
abbrev S2048x1 : Shape := ⟨2, ![2048, 1]⟩
abbrev S2048x12x1 : Shape := ⟨3, ![2048, 12, 1]⟩
abbrev S2048x12x2 : Shape := ⟨3, ![2048, 12, 2]⟩
abbrev S16 : Shape := ⟨1, ![16]⟩
abbrev S2048x16x256 : Shape := ⟨3, ![2048, 16, 256]⟩
abbrev S1x16x256 : Shape := ⟨3, ![1, 16, 256]⟩
abbrev S16x1024x2048 : Shape := ⟨3, ![16, 1024, 2048]⟩
abbrev S2048x16x1024 : Shape := ⟨3, ![2048, 16, 1024]⟩
abbrev S1x16x1024 : Shape := ⟨3, ![1, 16, 1024]⟩
abbrev S2048x1000 : Shape := ⟨2, ![2048, 1000]⟩
abbrev S1x1000 : Shape := ⟨2, ![1, 1000]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .i32⟩
  | .hbm, ⟨2, _⟩ => ⟨S2x1024x16, .f32⟩
  | .hbm, ⟨3, _⟩ => ⟨S16x1024x256, .f32⟩
  | .hbm, ⟨4, _⟩ => ⟨S16x256, .f32⟩
  | .hbm, ⟨5, _⟩ => ⟨S16x256x1024, .f32⟩
  | .hbm, ⟨6, _⟩ => ⟨S16x1024, .f32⟩
  | .hbm, ⟨7, _⟩ => ⟨S1024x1000, .f32⟩
  | .hbm, ⟨8, _⟩ => ⟨S1000, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x1024x16, .f32⟩
  | .hbm, ⟨31, _⟩ => ⟨S1024x16, .f32⟩
  | .hbm, ⟨32, _⟩ => ⟨S2048x16, .f32⟩
  | .hbm, ⟨33, _⟩ => ⟨S2048x12, .f32⟩
  | .hbm, ⟨34, _⟩ => ⟨S2048x12, .i32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048x1, .f32⟩
  | .hbm, ⟨41, _⟩ => ⟨S2048x12, .f32⟩
  | .hbm, ⟨42, _⟩ => ⟨S2048x12, .f32⟩
  | .hbm, ⟨43, _⟩ => ⟨S2048x12, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x12, .f32⟩
  | .hbm, ⟨48, _⟩ => ⟨S2048x12, .f32⟩
  | .hbm, ⟨49, _⟩ => ⟨S_, .f32⟩
  | .hbm, ⟨50, _⟩ => ⟨S2048x16, .f32⟩
  | .hbm, ⟨51, _⟩ => ⟨S2048, .i32⟩
  | .hbm, ⟨52, _⟩ => ⟨S2048x1, .i32⟩
  | .hbm, ⟨53, _⟩ => ⟨S_, .i32⟩
  | .hbm, ⟨54, _⟩ => ⟨S2048x1, .i32⟩
  | .hbm, ⟨55, _⟩ => ⟨S2048x1, .i1⟩
  | .hbm, ⟨56, _⟩ => ⟨S_, .i32⟩
  | .hbm, ⟨57, _⟩ => ⟨S2048x1, .i32⟩
  | .hbm, ⟨58, _⟩ => ⟨S2048x1, .i32⟩
  | .hbm, ⟨59, _⟩ => ⟨S2048x1, .i32⟩
  | .hbm, ⟨60, _⟩ => ⟨S_, .i32⟩
  | .hbm, ⟨61, _⟩ => ⟨S2048x12, .i32⟩
  | .hbm, ⟨62, _⟩ => ⟨S2048x12, .i1⟩
  | .hbm, ⟨63, _⟩ => ⟨S_, .i32⟩
  | .hbm, ⟨64, _⟩ => ⟨S2048x12, .i32⟩
  | .hbm, ⟨65, _⟩ => ⟨S2048x12, .i32⟩
  | .hbm, ⟨66, _⟩ => ⟨S2048x12, .i32⟩
  | .hbm, ⟨67, _⟩ => ⟨S2048x12, .i32⟩
  | .hbm, ⟨68, _⟩ => ⟨S2048x12x1, .i32⟩
  | .hbm, ⟨69, _⟩ => ⟨S2048x12x1, .i32⟩
  | .hbm, ⟨70, _⟩ => ⟨S2048x12x2, .i32⟩
  | .hbm, ⟨71, _⟩ => ⟨S2048x16, .f32⟩
  | .hbm, ⟨72, _⟩ => ⟨S_, .f32⟩
  | .hbm, ⟨73, _⟩ => ⟨S2048x16, .f32⟩
  | .hbm, ⟨74, _⟩ => ⟨S2048x16, .i1⟩
  | .hbm, ⟨75, _⟩ => ⟨S2048x16, .f32⟩
  | .hbm, ⟨76, _⟩ => ⟨S_, .f32⟩
  | .hbm, ⟨77, _⟩ => ⟨S16, .f32⟩
  | .hbm, ⟨78, _⟩ => ⟨S2048x16x256, .f32⟩
  | .hbm, ⟨79, _⟩ => ⟨S1x16x256, .f32⟩
  | .hbm, ⟨80, _⟩ => ⟨S2048x16x256, .f32⟩
  | .hbm, ⟨81, _⟩ => ⟨S2048x16x256, .f32⟩
  | .hbm, ⟨82, _⟩ => ⟨S_, .f32⟩
  | .hbm, ⟨83, _⟩ => ⟨S2048x16x256, .f32⟩
  | .hbm, ⟨84, _⟩ => ⟨S2048x16x256, .f32⟩
  | .hbm, ⟨85, _⟩ => ⟨S16x1024x2048, .f32⟩
  | .hbm, ⟨86, _⟩ => ⟨S2048x16x1024, .f32⟩
  | .hbm, ⟨87, _⟩ => ⟨S1x16x1024, .f32⟩
  | .hbm, ⟨88, _⟩ => ⟨S2048x16x1024, .f32⟩
  | .hbm, ⟨89, _⟩ => ⟨S2048x16x1024, .f32⟩
  | .hbm, ⟨90, _⟩ => ⟨S2048x1024, .f32⟩
  | .hbm, ⟨91, _⟩ => ⟨S_, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1000, .f32⟩
  | .hbm, ⟨96, _⟩ => ⟨S1x1000, .f32⟩
  | .hbm, ⟨97, _⟩ => ⟨S2048x1000, .f32⟩
  | .hbm, ⟨98, _⟩ => ⟨S2048x1000, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_c_2 : Ref sig .tc := ⟨.hbm, 15, rfl⟩
abbrev main_v3 : Ref sig .tc := ⟨.hbm, 16, rfl⟩
abbrev main_c_3 : Ref sig .tc := ⟨.hbm, 17, rfl⟩
abbrev main_c_4 : Ref sig .tc := ⟨.hbm, 18, rfl⟩
abbrev main_v4 : Ref sig .tc := ⟨.hbm, 19, rfl⟩
abbrev main_c_5 : Ref sig .tc := ⟨.hbm, 20, rfl⟩
abbrev main_v5 : Ref sig .tc := ⟨.hbm, 21, rfl⟩
abbrev main_c_6 : Ref sig .tc := ⟨.hbm, 22, rfl⟩
abbrev main_c_7 : Ref sig .tc := ⟨.hbm, 23, rfl⟩
abbrev main_v6 : Ref sig .tc := ⟨.hbm, 24, rfl⟩
abbrev main_c_8 : Ref sig .tc := ⟨.hbm, 25, rfl⟩
abbrev main_c_9 : Ref sig .tc := ⟨.hbm, 26, rfl⟩
abbrev main_v7 : Ref sig .tc := ⟨.hbm, 27, rfl⟩
abbrev main_c_10 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_values : Ref sig .tc := ⟨.hbm, 33, rfl⟩
abbrev main_indices : Ref sig .tc := ⟨.hbm, 34, rfl⟩
abbrev main_cst : Ref sig .tc := ⟨.hbm, 35, rfl⟩
abbrev main_v12 : Ref sig .tc := ⟨.hbm, 36, rfl⟩
abbrev main_cst_11 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_12 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_13 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_14 : Ref sig .tc := ⟨.hbm, 53, rfl⟩
abbrev main_v26 : Ref sig .tc := ⟨.hbm, 54, rfl⟩
abbrev main_v27 : Ref sig .tc := ⟨.hbm, 55, rfl⟩
abbrev main_c_15 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_16 : Ref sig .tc := ⟨.hbm, 60, rfl⟩
abbrev main_v31 : Ref sig .tc := ⟨.hbm, 61, rfl⟩
abbrev main_v32 : Ref sig .tc := ⟨.hbm, 62, rfl⟩
abbrev main_c_17 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_18 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_19 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call0_cst : Ref sig .tc := ⟨.hbm, 82, rfl⟩
abbrev main_call0_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call1_cst : Ref sig .tc := ⟨.hbm, 91, rfl⟩
abbrev main_call1_v0 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩

abbrev nD : Nat := 1
abbrev τ : Topo := Topo.v7x

variable {F : FTy → Type} [FloatOps F]
-- ==== Proof.Block.lean ====
/-
  What one grid point of the kernel computes, named: the mask of the chosen experts (whichever arm of the branch yields
  it), the gates, the block's load, and the block of the output. Every name composes the generated payloads of the
  kernel's body; nothing here is about memory.
-/
module

public import proofs.«01_k».proof.Proof.Gen.KernelIdeal.Skeleton

@[expose] public section

noncomputable section

namespace Cert.MoE

open Cert.KernelIdeal Cert.KernelIdeal.Gen
open Idealize.ShloMosaic Idealize.ShloMosaic.TcCoe

variable {F : FTy → Type} [FloatOps F]

/-- The block's logits: its tokens times the selected gating matrix. -/
def lgt (x : Vec F S256x1024 .f32) (wg : Vec F S1024x16 .bf16) : FVec F S256x16 .f32 := k0_pay13 x wg

/-- The two literals the body writes as scalars. -/
abbrev one : F .f32 := Scalar.ofBits .f32 0x3F800000#32
/-- The float zero. -/
abbrev zero : F .f32 := Scalar.ofBits .f32 0x00000000#32

/-- The fast mask: lane `e` is kept when fewer than twelve logits of its row are greater. -/
def fastMask (x : Vec F S256x1024 .f32) (wg : Vec F S1024x16 .bf16) : FVec F S256x16 .f32 :=
  k0_pay29 (lgt x wg) (k0_pay14 x wg) (k0_pay15 x wg) (k0_pay16 x wg) (k0_pay17 x wg) (k0_pay18 x wg) (k0_pay19 x wg)
    (k0_pay21 (lgt x wg) (k0_pay20 x wg)) (k0_pay22 (lgt x wg)) (k0_pay23 (lgt x wg)) (k0_pay24 (lgt x wg)) (k0_pay25 (lgt x wg))
    (k0_pay26 (lgt x wg)) (k0_pay27 (lgt x wg)) (k0_pay28 (lgt x wg)) one zero

/-- The block's verdict on the fast mask: one when every row of it keeps exactly twelve lanes. -/
def fastOk (x : Vec F S256x1024 .f32) (wg : Vec F S1024x16 .bf16) : F .f32 :=
  k0_pay30 (lgt x wg) (k0_pay14 x wg) (k0_pay15 x wg) (k0_pay16 x wg) (k0_pay17 x wg) (k0_pay18 x wg) (k0_pay19 x wg)
    (k0_pay21 (lgt x wg) (k0_pay20 x wg)) (k0_pay22 (lgt x wg)) (k0_pay23 (lgt x wg)) (k0_pay24 (lgt x wg)) (k0_pay25 (lgt x wg))
    (k0_pay26 (lgt x wg)) (k0_pay27 (lgt x wg)) (k0_pay28 (lgt x wg)) one zero

/-- The lane numbers. -/
abbrev lanes : IVec S256x16 32 := iota .tc S256x16 32 [1] iota_S256x16_d1_w32

/-- The exact mask: lane `e` is kept when fewer than twelve lanes come before it in the order "greater first, the lower
    lane first among equals". -/
def exactMask (v4 : FVec F S256x16 .f32) : FVec F S256x16 .f32 :=
  k0_pay31 v4 lanes (k0_pay7 v4 lanes (k0_pay6 v4 lanes (k0_pay2 v4) (k0_pay4 v4) (k0_pay5 v4)))
    (k0_pay9 v4) (k0_pay10 v4) (k0_pay11 lanes)

/-- The branch's condition as the body computes it. -/
def okBit (x : Vec F S256x1024 .f32) (wg : Vec F S1024x16 .bf16) : BitVec 1 :=
  Scalar.cmpi .ne (Scalar.extui (Scalar.cmpf .ogt (fastOk x wg) zero) : BitVec 32) 0#32

/-- The mask the branch yields. -/
def mask (x : Vec F S256x1024 .f32) (wg : Vec F S1024x16 .bf16) : FVec F S256x16 .f32 :=
  if okBit x wg = 1#1 then fastMask x wg else exactMask (lgt x wg)

/-- The block's gates. -/
def gates (x : Vec F S256x1024 .f32) (wg : Vec F S1024x16 .bf16) : FVec F S256x16 .f32 := k0_pay32 (lgt x wg) (mask x wg)

/-- The load of the first block, and the load after a later block over what the earlier ones left. -/
def load0 (x : Vec F S256x1024 .f32) (wg : Vec F S1024x16 .bf16) : FVec F S1x16 .f32 := k0_pay33 (lgt x wg) (mask x wg)
/-- The load after a later block, over what the earlier blocks left. -/
def loadS (x : Vec F S256x1024 .f32) (wg : Vec F S1024x16 .bf16) (acc : Vec F S1x16 .f32) : FVec F S1x16 .f32 :=
  k0_pay34 (lgt x wg) (mask x wg) acc

/-- The four column blocks of the first layer's weights and the four row blocks of the second's. -/
abbrev rc0 : Rect S1024x4096 := Rect.unit (s := S1024x4096) ![0, 0] S1024x1024.size inb_S1024x4096_S1024x1024_0_0
/-- Columns 1024 to 2047 of the first layer. -/
abbrev rc1 : Rect S1024x4096 := Rect.unit (s := S1024x4096) ![0, 1024] S1024x1024.size inb_S1024x4096_S1024x1024_0_1024
/-- Columns 2048 to 3071 of the first layer. -/
abbrev rc2 : Rect S1024x4096 := Rect.unit (s := S1024x4096) ![0, 2048] S1024x1024.size inb_S1024x4096_S1024x1024_0_2048
/-- Columns 3072 to 4095 of the first layer. -/
abbrev rc3 : Rect S1024x4096 := Rect.unit (s := S1024x4096) ![0, 3072] S1024x1024.size inb_S1024x4096_S1024x1024_0_3072
/-- Rows 0 to 1023 of the second layer. -/
abbrev rr0 : Rect S4096x1024 := Rect.unit (s := S4096x1024) ![0, 0] S1024x1024.size inb_S4096x1024_S1024x1024_0_0
/-- Rows 1024 to 2047 of the second layer. -/
abbrev rr1 : Rect S4096x1024 := Rect.unit (s := S4096x1024) ![1024, 0] S1024x1024.size inb_S4096x1024_S1024x1024_1024_0
/-- Rows 2048 to 3071 of the second layer. -/
abbrev rr2 : Rect S4096x1024 := Rect.unit (s := S4096x1024) ![2048, 0] S1024x1024.size inb_S4096x1024_S1024x1024_2048_0
/-- Rows 3072 to 4095 of the second layer. -/
abbrev rr3 : Rect S4096x1024 := Rect.unit (s := S4096x1024) ![3072, 0] S1024x1024.size inb_S4096x1024_S1024x1024_3072_0

/-- The output block from the tokens, the logits' mask and the eight weight blocks. -/
def outOf (x : Vec F S256x1024 .f32) (v4 m : FVec F S256x16 .f32) (a0 a1 a2 a3 b0 b1 b2 b3 : Vec F S1024x1024 .bf16)
    (wo : Vec F S1024x1000 .bf16) : FVec F S256x1000 .f32 :=
  k0_pay1 x
    (k0_pay43 (k0_pay32 v4 m)
      (k0_pay39 (k0_pay12 x) (k0_pay32 v4 m) (k0_pay35 (k0_pay12 x) a0) (k0_pay36 (k0_pay12 x) v4 m a0)
        (k0_pay37 (k0_pay12 x) v4 m a0) (k0_pay38 (k0_pay12 x) v4 m a0) b0 a1 b1)
      (k0_pay40 (k0_pay12 x) a2) (k0_pay41 (k0_pay12 x) a2) (k0_pay42 (k0_pay32 v4 m)) b2)
    (k0_pay44 (k0_pay12 x) (k0_pay32 v4 m) a3) (k0_pay45 b3) wo

/-- The output block. -/
def outB (x : Vec F S256x1024 .f32) (wg : Vec F S1024x16 .bf16) (w1 : Vec F S1024x4096 .bf16) (w2 : Vec F S4096x1024 .bf16)
    (wo : Vec F S1024x1000 .bf16) : FVec F S256x1000 .f32 :=
  outOf x (lgt x wg) (mask x wg) (fun j => w1 (rc0.idx j)) (fun j => w1 (rc1.idx j)) (fun j => w1 (rc2.idx j)) (fun j => w1 (rc3.idx j))
    (fun j => w2 (rr0.idx j)) (fun j => w2 (rr1.idx j)) (fun j => w2 (rr2.idx j)) (fun j => w2 (rr3.idx j)) wo

/-- The mask from the values the branch reads: the logits, the seven ranks summed before it, and the partial terms. -/
def maskOf (v4 v10 v16 v22 v28 v34 v40 v46 v52 v58 v64 v70 v76 v82 : FVec F S256x16 .f32) (v85 : IVec S256x16 1) (o z : F .f32) :
    FVec F S256x16 .f32 :=
  if (Scalar.cmpi .ne (Scalar.extui (Scalar.cmpf .ogt (k0_pay30 v4 v10 v16 v22 v28 v34 v40 v46 v52 v58 v64 v70 v76 v82 v85 o z) zero) : BitVec 32) 0#32 : BitVec 1) = 1#1
  then k0_pay29 v4 v10 v16 v22 v28 v34 v40 v46 v52 v58 v64 v70 v76 v82 v85 o z else exactMask v4

/-- The branch and both its arms, as one value: the part of the body that holds the branch does nothing but return it. -/
theorem part6_eq (i : grid0.Coords) (arg1 : Memref sig .tc .vmem S256x1024 .f32) (harg1 : arg1.IsWhole) (arg2 : Memref sig .tc .vmem S1024x16 .bf16) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1024x1000 .bf16) (harg5 : arg5.IsWhole) (arg6 : Memref sig .tc .vmem S256x1000 .f32) (harg6 : arg6.IsWhole) (arg7 : Memref sig .tc .vmem S256x16 .f32) (harg7 : arg7.IsWhole) (arg8 : Memref sig .tc .vmem S1x16 .f32) (harg8 : arg8.IsWhole)
    (v4 v10 v16 v22 v28 v34 v40 v46 v52 v58 v64 v70 v76 v82 : FVec F S256x16 .f32) (v85 : IVec S256x16 1) (o z : F .f32) :
    k0_part6 i arg1 harg1 arg2 harg2 arg3 harg3 arg4 harg4 arg5 harg5 arg6 harg6 arg7 harg7 arg8 harg8
      v4 v10 v16 v22 v28 v34 v40 v46 v52 v58 v64 v70 v76 v82 v85 o z
    = pure (maskOf v4 v10 v16 v22 v28 v34 v40 v46 v52 v58 v64 v70 v76 v82 v85 o z) := by
  rw [k0_part6_eq_skeleton]
  unfold k0_part6_skel maskOf
  dsimp only
  split
  · rfl
  · rw [k0_part1_eq_skeleton, k0_part2_eq_skeleton, k0_part3_eq_skeleton]; rfl

end Cert.MoE

end
-- ==== Proof.Body.lean ====
/-
  The body's run at one grid point: from the tokens' block, the weights and what the load window holds, the body leaves
  the output block, the gates and the load that `Block` names. The load's two stores are alternatives: the first grid
  point stores, every later one adds.
-/
module

public import proofs.«01_k».proof.Proof.Block
public import proofs.«01_k».proof.Proof.Gen.KernelIdeal.Frame
public import Idealize.ShloMosaic.Lib.VecWindow
public import Idealize.ShloMosaic.Lib.Pipeline.Value

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a two-dimensional block. -/
theorem hz : (![0, 0] : Fin 2 → ℕ) = fun _ => 0 := by decide

/-- At the first grid point the body stores the block's load. -/
theorem body_first (c : Dev nD) (i : grid0.Coords) (h2 : k0_cond2 i = 1#1) (h3 : ¬ k0_cond3 i = 1#1)
    (arg1 : Memref sig .tc .vmem S256x1024 .f32) (harg1 : arg1.IsWhole) (arg2 : Memref sig .tc .vmem S1024x16 .bf16) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1024x1000 .bf16) (harg5 : arg5.IsWhole) (arg6 : Memref sig .tc .vmem S256x1000 .f32) (harg6 : arg6.IsWhole) (arg7 : Memref sig .tc .vmem S256x16 .f32) (harg7 : arg7.IsWhole) (arg8 : Memref sig .tc .vmem S1x16 .f32) (harg8 : arg8.IsWhole)
    (x : Vec F S256x1024 .f32) (wg : Vec F S1024x16 .bf16) (w1 : Vec F S1024x4096 .bf16) (w2 : Vec F S4096x1024 .bf16)
    (wo : Vec F S1024x1000 .bf16) (K : PUnit → sProp 𝕄) :
    iprop(owns (c : Thread nD τ) arg1 fullShare x ∗ owns (c : Thread nD τ) arg2 fullShare wg ∗ owns (c : Thread nD τ) arg3 fullShare w1
        ∗ owns (c : Thread nD τ) arg4 fullShare w2 ∗ owns (c : Thread nD τ) arg5 fullShare wo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare wg ∗ owns (c : Thread nD τ) arg3 fullShare w1
            ∗ owns (c : Thread nD τ) arg4 fullShare w2 ∗ owns (c : Thread nD τ) arg5 fullShare wo
            ∗ owns (c : Thread nD τ) arg6 fullShare (outB x wg w1 w2 wo) ∗ owns (c : Thread nD τ) arg7 fullShare (gates x wg)
            ∗ owns (c : Thread nD τ) arg8 fullShare (load0 x wg)) -∗ K ⟨⟩))
      ⊢ wp frame (wpE (defs₀ (F := F)) Variants.none c none) Set.univ
          (cc0__moe_kernel i arg1 harg1 arg2 harg2 arg3 harg3 arg4 harg4 arg5 harg5 arg6 harg6 arg7 harg7 arg8 harg8) K := by
  simp only [cc0__moe_kernel_eq_skeleton]; unfold cc0__moe_kernel_skel
  simp only [part6_eq]
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists _; isplitr; swap; · iexact H6
    ipureintro
    refine (View.read_writes_full _ _ _ _ _).trans ?_
    sl_unfold_words
    simp only [View.readAt_eq_ld, e1, e2, e3, e4, e5, View.ld_unit_zero (S := S256x1024) hz, View.ld_unit_zero (S := S1024x16) hz,
      View.ld_unit_zero (S := S1024x1000) hz]
    rfl
  isplitl [H7]
  · iexists _; isplitr; swap; · iexact H7
    ipureintro
    refine (View.read_writes_full _ _ _ _ _).trans ?_
    sl_unfold_words
    simp only [View.readAt_eq_ld, e1, e2, View.ld_unit_zero (S := S256x1024) hz, View.ld_unit_zero (S := S1024x16) hz]
    rfl
  · iexists _; isplitr; swap; · iexact H8
    ipureintro
    refine (View.read_writes_full _ _ _ _ _).trans ?_
    sl_unfold_words
    simp only [View.readAt_eq_ld, e1, e2, View.ld_unit_zero (S := S256x1024) hz, View.ld_unit_zero (S := S1024x16) hz]
    rfl

/-- At a later grid point the body adds the block's load to what the window holds. -/
theorem body_later (c : Dev nD) (i : grid0.Coords) (h2 : ¬ k0_cond2 i = 1#1) (h3 : k0_cond3 i = 1#1)
    (arg1 : Memref sig .tc .vmem S256x1024 .f32) (harg1 : arg1.IsWhole) (arg2 : Memref sig .tc .vmem S1024x16 .bf16) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1024x1000 .bf16) (harg5 : arg5.IsWhole) (arg6 : Memref sig .tc .vmem S256x1000 .f32) (harg6 : arg6.IsWhole) (arg7 : Memref sig .tc .vmem S256x16 .f32) (harg7 : arg7.IsWhole) (arg8 : Memref sig .tc .vmem S1x16 .f32) (harg8 : arg8.IsWhole)
    (x : Vec F S256x1024 .f32) (wg : Vec F S1024x16 .bf16) (w1 : Vec F S1024x4096 .bf16) (w2 : Vec F S4096x1024 .bf16)
    (wo : Vec F S1024x1000 .bf16) (acc : Vec F S1x16 .f32) (K : PUnit → sProp 𝕄) :
    iprop(owns (c : Thread nD τ) arg1 fullShare x ∗ owns (c : Thread nD τ) arg2 fullShare wg ∗ owns (c : Thread nD τ) arg3 fullShare w1
        ∗ owns (c : Thread nD τ) arg4 fullShare w2 ∗ owns (c : Thread nD τ) arg5 fullShare wo
        ∗ (∃ d, owns (c : Thread nD τ) arg6 fullShare d) ∗ (∃ d, owns (c : Thread nD τ) arg7 fullShare d) ∗ owns (c : Thread nD τ) arg8 fullShare acc
        ∗ (iprop(owns (c : Thread nD τ) arg1 fullShare x ∗ owns (c : Thread nD τ) arg2 fullShare wg ∗ owns (c : Thread nD τ) arg3 fullShare w1
            ∗ owns (c : Thread nD τ) arg4 fullShare w2 ∗ owns (c : Thread nD τ) arg5 fullShare wo
            ∗ owns (c : Thread nD τ) arg6 fullShare (outB x wg w1 w2 wo) ∗ owns (c : Thread nD τ) arg7 fullShare (gates x wg)
            ∗ owns (c : Thread nD τ) arg8 fullShare (loadS x wg acc)) -∗ K ⟨⟩))
      ⊢ wp frame (wpE (defs₀ (F := F)) Variants.none c none) Set.univ
          (cc0__moe_kernel i arg1 harg1 arg2 harg2 arg3 harg3 arg4 harg4 arg5 harg5 arg6 harg6 arg7 harg7 arg8 harg8) K := by
  simp only [cc0__moe_kernel_eq_skeleton]; unfold cc0__moe_kernel_skel
  simp only [part6_eq]
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%f8, %e8, H8⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists _; isplitr; swap; · iexact H6
    ipureintro
    refine (View.read_writes_full _ _ _ _ _).trans ?_
    sl_unfold_words
    simp only [View.readAt_eq_ld, e1, e2, e3, e4, e5, View.ld_unit_zero (S := S256x1024) hz, View.ld_unit_zero (S := S1024x16) hz,
      View.ld_unit_zero (S := S1024x1000) hz]
    rfl
  isplitl [H7]
  · iexists _; isplitr; swap; · iexact H7
    ipureintro
    refine (View.read_writes_full _ _ _ _ _).trans ?_
    sl_unfold_words
    simp only [View.readAt_eq_ld, e1, e2, View.ld_unit_zero (S := S256x1024) hz, View.ld_unit_zero (S := S1024x16) hz]
    rfl
  · iexists _; isplitr; swap; · iexact H8
    ipureintro
    refine (View.read_writes_full _ _ _ _ _).trans ?_
    sl_unfold_words
    simp only [View.readAt_eq_ld, e1, e2, e8, View.ld_unit_zero (S := S1x16) hz, View.ld_unit_zero (S := S256x1024) hz, View.ld_unit_zero (S := S1024x16) hz]
    rfl

end Cert.MoE

end
-- ==== Proof.Run.lean ====
/-
  The kernel's run from its launch: the pipeline's proof data over `Body`'s triples — what each window holds after each
  grid point — and the whole run, its three result arrays at what the flushes leave and the counters at zero.
-/
module

public import proofs.«01_k».proof.Proof.Body

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The load branch over the grid -/

/-- The first alternative is taken at the first grid point alone. -/
theorem cond2_iff : ∀ t : Fin cfg0.N, k0_cond2 (grid0.coords t) = 1#1 ↔ t.val = 0 := by decide
/-- The second alternative is taken at every other. -/
theorem cond3_iff : ∀ t : Fin cfg0.N, k0_cond3 (grid0.coords t) = 1#1 ↔ t.val ≠ 0 := by decide
/-- So the load's window is written at every point. -/
theorem live7 : ∀ i : grid0.Coords, idle0 7 i = false := by
  have h : ∀ v : Fin 8,
      (!((Scalar.cmpi .ne (Scalar.extui (Scalar.cmpi .eq (BitVec.ofNat 32 v.val) 0#32) : BitVec 32) 0#32 : BitVec 1) == 1#1)
        && !((Scalar.cmpi .ne (Scalar.extui (Scalar.cmpi .ne (BitVec.ofNat 32 v.val) 0#32) : BitVec 32) 0#32 : BitVec 1) == 1#1)) = false := by
    decide
  exact fun i => h (i 0)

/-! ## The proof data -/

/-- What the load's window holds after point `n`: the first block's load, and each later one's over it. -/
def loadAt (c : Dev nD) : (n : ℕ) → n < cfg0.N → Vec F S1x16 .f32
  | 0, h => load0 (iblk m c 0 ⟨0, h⟩) (iblk m c 1 ⟨0, h⟩)
  | n + 1, h => loadS (iblk m c 0 ⟨n + 1, h⟩) (iblk m c 1 ⟨n + 1, h⟩) (loadAt c n (Nat.lt_of_succ_lt h))

/-- The pipeline's data: the arrays as the host prefix leaves them; the five input windows hold their blocks, the three
    outputs what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB (iblk m c 0 t) (iblk m c 1 t) (iblk m c 2 t) (iblk m c 3 t) (iblk m c 4 t)
    | ⟨6, _⟩ => gates (iblk m c 0 t) (iblk m c 1 t)
    | ⟨7, _⟩ => loadAt m c t.val t.isLt
  Φ _ := Pipeline.ΦA spec0 c
  q _ := fullShare
  owed _ := 0

/-- A window's array at the launch is what the host code left there. -/
theorem A_eq (c : Dev nD) (w : Fin cfg0.W) : (dats m 0 c).A w = V m c (Pipeline.arrRef spec0 w) := rfl

/-- Before a point the slot of the tokens holds its block. -/
theorem before0 (c : Dev nD) (t : Fin cfg0.N) (d) : (dats m 0 c).before 0 t d = iblk m c 0 t := before0_0_of m _ rfl (fun _ => rfl) t d
/-- Before a point the slot of the gating matrix holds its block. -/
theorem before1 (c : Dev nD) (t : Fin cfg0.N) (d) : (dats m 0 c).before 1 t d = iblk m c 1 t := before0_1_of m _ rfl (fun _ => rfl) t d
/-- Before a point the slot of the first layer holds its block. -/
theorem before2 (c : Dev nD) (t : Fin cfg0.N) (d) : (dats m 0 c).before 2 t d = iblk m c 2 t := before0_2_of m _ rfl (fun _ => rfl) t d
/-- Before a point the slot of the second layer holds its block. -/
theorem before3 (c : Dev nD) (t : Fin cfg0.N) (d) : (dats m 0 c).before 3 t d = iblk m c 3 t := before0_3_of m _ rfl (fun _ => rfl) t d
/-- Before a point the slot of the classifier holds its block. -/
theorem before4 (c : Dev nD) (t : Fin cfg0.N) (d) : (dats m 0 c).before 4 t d = iblk m c 4 t := before0_4_of m _ rfl (fun _ => rfl) t d

/-- Before a later point the load's window holds what the point before left. -/
theorem before7 (c : Dev nD) (n : ℕ) (h : n + 1 < cfg0.N) (d) :
    (dats m 0 c).before 7 ⟨n + 1, h⟩ d = loadAt m c n (Nat.lt_of_succ_lt h) :=
  ((dats m 0 c).before_out_kept 7 rfl ⟨n + 1, h⟩ (Nat.succ_ne_zero n)
    (by
      have hN : cfg0.N = 8 := N_0
      refine Bool.eq_false_iff.mpr fun hf => ?_
      have := (flush0_7 _).mp hf
      simp only [Nat.add_sub_cancel] at this
      omega) live7 (fun _ _ => rfl) d)

/-! ## The body obligation -/

/-- The body at each point, on the windows as the pipeline lends them. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := F)) Variants.none c none) Set.univ (bodyAt0 t)
          (fun _ => iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)
            ∗ owns (c : Thread nD τ) (st0_7 t) fullShare ((dats m 0 c).after 7 t))) := by
  unfold bodyAt0
  rw [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [before0, before1, before2, before3, before4]
  rcases t with ⟨_ | n, ht⟩
  · iapply (body_first c (grid0.coords ⟨0, ht⟩) ((cond2_iff _).mpr rfl) (fun h => (cond3_iff _).mp h rfl) _ _ _ _ _ _ _ _ _ _ _ _ _ _ _ _
      (iblk m c 0 ⟨0, ht⟩) (iblk m c 1 ⟨0, ht⟩) (iblk m c 2 ⟨0, ht⟩) (iblk m c 3 ⟨0, ht⟩) (iblk m c 4 ⟨0, ht⟩) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [before7]
    iapply (body_later c (grid0.coords ⟨n + 1, ht⟩) (fun h => Nat.succ_ne_zero n ((cond2_iff _).mp h)) ((cond3_iff _).mpr (Nat.succ_ne_zero n)) _ _ _ _ _ _ _ _ _ _ _ _ _ _ _ _
      (iblk m c 0 ⟨n + 1, ht⟩) (iblk m c 1 ⟨n + 1, ht⟩) (iblk m c 2 ⟨n + 1, ht⟩) (iblk m c 3 ⟨n + 1, ht⟩) (iblk m c 4 ⟨n + 1, ht⟩)
      (loadAt m c n (Nat.lt_of_succ_lt ht)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iintro ⟨H0, H1, H2, H3, H4, H5, H6, H7⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's row for the body is the body at the point's slots. -/
theorem defs₀_row (t : Fin cfg0.N) : defs₀ (F := F) .tc cfg0.body (cfg0.bodyArgs t (cfg0.slots t)) = bodyAt0 t := by
  unfold defs₀; rw [Defs.onTc_tc]

/-- The body does at every grid point what the pipeline asks of it. -/
theorem body_obligation (c : Dev nD) : BodyObligation (dats (F := F) m 0 c) (defs₀ (F := F)) Variants.none () Set.univ := fun t => by
  rw [bigSep_W0, bigSep_W0, defs₀_row, show cfg0.idle 7 (cfg0.grid.coords t) = false from live7 _]
  exact triple_restated (sound_body m c t) rfl .rfl fun _ => .rfl

/-! ## The run -/

set_option backward.isDefEq.respectTransparency.types false in
/-- The whole program's run: the arrays after the flushes, the host's buffers after the tail, the counters at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps (hmain := hmain m Variants.none) (hA := A_eq m)
    (hΦ := fun _ _ => rfl)

/-- THE FRAME, at any float: every argument ends as it was, and the counters are at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  have rest : ∀ {r} (h : Pipeline.FramePost cfgs (dats m) 0 (Pipeline.afterTail₀ cfgs (dats m) 0 (V0 m) [hostOps1]) r) (c : Dev nD) (b : Ref sig .tc)
      (hb : b ∈ Pipeline.restRefs sig spec0) (hW : Pipeline.afterTail₀ cfgs (dats m) 0 (V0 m) [hostOps1] c b = m ((c : Thread nD τ).loc b)),
      r.2.mem ((c.tc : Thread nD τ).loc b) = m ((c.tc : Thread nD τ).loc b) := fun h c b hb hW => ((h c).2 b hb).trans hW
  exact (θ_run defs _ _).mono (fun _ h => ⟨fun c =>
    ⟨((h.1 c).1 0).trans (((dats m 0 c).arrAt_in 0 rfl _).trans (V_main_arg0 m c)),
      rest h.1 c _ (Pipeline.mem_restRefs_of main_arg1 (by decide) (by decide)) (W_main_arg1 m _ c), rest h.1 c _ (Pipeline.mem_restRefs_of main_arg2 (by decide) (by decide)) (W_main_arg2 m _ c),
      rest h.1 c _ (Pipeline.mem_restRefs_of main_arg3 (by decide) (by decide)) (W_main_arg3 m _ c), rest h.1 c _ (Pipeline.mem_restRefs_of main_arg4 (by decide) (by decide)) (W_main_arg4 m _ c),
      rest h.1 c _ (Pipeline.mem_restRefs_of main_arg5 (by decide) (by decide)) (W_main_arg5 m _ c), rest h.1 c _ (Pipeline.mem_restRefs_of main_arg6 (by decide) (by decide)) (W_main_arg6 m _ c),
      rest h.1 c _ (Pipeline.mem_restRefs_of main_arg7 (by decide) (by decide)) (W_main_arg7 m _ c), rest h.1 c _ (Pipeline.mem_restRefs_of main_arg8 (by decide) (by decide)) (W_main_arg8 m _ c)⟩, h.2⟩)
    (run_main m ρ)

end Cert.MoE

end
-- ==== Proof.Pre.lean ====
/-
  The precondition's own side conditions (shapes that broadcast and reduce), which a program naming it must bring.
-/
module

public import proofs.«01_k».proof.Pre_zero_biases_finite_gating
public import Idealize.ShloMosaic.Lib.Pipeline.Frame

@[expose] public section

namespace Cert.MoE

open Idealize.ShloMosaic

/-- The precondition's shapes broadcast and reduce as it says. -/
theorem preFacts : Cert.Pre_zero_biases_finite_gating.Facts where
  bcast_S_S16x256 := by decide
  reducesTo_S16x256_S_d0_1 := by decide
  h_S_ := by decide
  bcast_S_S16x1024 := by decide
  reducesTo_S16x1024_S_d0_1 := by decide
  bcast_S_S1000 := by decide
  reducesTo_S1000_S_d0 := by decide
  bcast_S_S2048x1024 := by decide
  reducesTo_S2048x1024_S_d0_1 := by decide
  bcast_S_S2x1024x16 := by decide
  reducesTo_S2x1024x16_S_d0_1_2 := by decide

end Cert.MoE
-- ==== Proof.RefRun.lean ====
/-
  The reference's run: its operations in seven stretches, what each stretch leaves as a named function of what it reads,
  and the run with its three results at the composition of those functions.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option maxRecDepth 8192
set_option maxHeartbeats 1000000

noncomputable section

namespace Cert.MoE.Ref

open Cert.ReferenceIdeal Cert.ReferenceIdeal.Gen Idealize.ShloMosaic Idealize.ShloMosaic.TcCoe Idealize.SL.Sem Idealize.ShloMosaic.StableHlo

variable {F : FTy → Type} [FloatOps F]

/-- Two columns of indices, paired. -/
def pairUp : (⟨S2048x12x1, .i32⟩ : BufTy).Contents (Elt F) → (⟨S2048x12x1, .i32⟩ : BufTy).Contents (Elt F) → (⟨S2048x12x2, .i32⟩ : BufTy).Contents (Elt F) :=
  fun a b => concatenate S2048x12x2 2 [⟨S2048x12x1, a⟩, ⟨S2048x12x1, b⟩] concatenates_S2048x12x1_S2048x12x1_S2048x12x2_d2

/-! ## The operations -/

/-- The operations of: where the selected gating matrix starts. -/
abbrev opsStarts : List (HloOp τ sig (Elt F)) :=
  [ nullary main_c (constantI S_ 32 0#32),
    binary main_arg1 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 2#32),
    binary main_arg1 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg1 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v3 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 1024#32),
    binary main_c_3 main_c_4 main_v4 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v3 main_v4 main_c_5 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v6 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 16#32),
    binary main_c_8 main_c_9 main_v7 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v6 main_v7 main_c_10 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The operations of: the selected gating matrix and the logits. -/
abbrev opsLogits : List (HloOp τ sig (Elt F)) :=
  [ unaryIndexed main_arg2 ![main_v2, main_v5, main_v8] ⟨S_, .i32⟩ main_v9 ((fun x i => Host.dynamicSlice S1x1024x16 x (fun k => (i k (Shape.Idx.first h_S_)).toInt) sliceFits_S2x1024x16_S1x1024x16) : (⟨S2x1024x16, .f32⟩ : BufTy).Contents (Elt F) → (Fin 3 → (⟨S_, .i32⟩ : BufTy).Contents (Elt F)) → (⟨S1x1024x16, .f32⟩ : BufTy).Contents (Elt F)),
    reshape main_v9 main_v10 (rfl : (.f32 : EltTy) = .f32) shapeCasts_S1x1024x16_S1024x16,
    binary main_arg0 main_v10 main_v11 ((fun l r => Host.dotGeneral dot_S2048x1024_S1024x16_S2048x16_1_0_0_1_n_n none l r) : (⟨S2048x1024, .f32⟩ : BufTy).Contents (Elt F) → (⟨S1024x16, .f32⟩ : BufTy).Contents (Elt F) → (⟨S2048x16, .f32⟩ : BufTy).Contents (Elt F)) ]

/-- The operations of: the twelve greatest logits of each row and their softmax. -/
abbrev opsTop : List (HloOp τ sig (Elt F)) :=
  [ unary main_v11 main_values ((fun x => (Host.topK S2048x12 1 (FloatOps.cmpfTotal .gt) x sliceFits_S2048x16_S2048x12).1) : (⟨S2048x16, .f32⟩ : BufTy).Contents (Elt F) → (⟨S2048x12, .f32⟩ : BufTy).Contents (Elt F)),
    unary main_v11 main_indices ((fun x => (Host.topK S2048x12 1 (FloatOps.cmpfTotal .gt) x sliceFits_S2048x16_S2048x12).2) : (⟨S2048x16, .f32⟩ : BufTy).Contents (Elt F) → (⟨S2048x12, .i32⟩ : BufTy).Contents (Elt F)),
    nullary main_cst (constant S_ .f32 0xFF800000#32),
    binary main_values main_cst main_v12 ((fun x v => Host.reduce FloatOps.maximumf x v reducesTo_S2048x12_S2048_d1 h_S_) : (⟨S2048x12, .f32⟩ : BufTy).Contents (Elt F) → (⟨S_, .f32⟩ : BufTy).Contents (Elt F) → (⟨S2048, .f32⟩ : BufTy).Contents (Elt F)),
    nullary main_cst_11 (constant S_ .f32 0xFF800000#32),
    unary main_cst_11 main_v13 (broadcastInDim S2048 ![] bcast_S_S2048 : (⟨S_, .f32⟩ : BufTy).Contents (Elt F) → (⟨S2048, .f32⟩ : BufTy).Contents (Elt F)),
    binary main_v13 main_v12 main_v14 (maximumf : (⟨S2048, .f32⟩ : BufTy).Contents (Elt F) → (⟨S2048, .f32⟩ : BufTy).Contents (Elt F) → (⟨S2048, .f32⟩ : BufTy).Contents (Elt F)),
    unary main_v14 main_v15 (broadcastInDim S2048x1 ![0] bcast_S2048_S2048x1_0 : (⟨S2048, .f32⟩ : BufTy).Contents (Elt F) → (⟨S2048x1, .f32⟩ : BufTy).Contents (Elt F)),
    unary main_v15 main_v16 (broadcastInDim S2048x12 ![0, 1] bcast_S2048x1_S2048x12_0_1 : (⟨S2048x1, .f32⟩ : BufTy).Contents (Elt F) → (⟨S2048x12, .f32⟩ : BufTy).Contents (Elt F)),
    binary main_values main_v16 main_v17 (subf : (⟨S2048x12, .f32⟩ : BufTy).Contents (Elt F) → (⟨S2048x12, .f32⟩ : BufTy).Contents (Elt F) → (⟨S2048x12, .f32⟩ : BufTy).Contents (Elt F)),
    unary main_v17 main_v18 (Host.exp : (⟨S2048x12, .f32⟩ : BufTy).Contents (Elt F) → (⟨S2048x12, .f32⟩ : BufTy).Contents (Elt F)),
    nullary main_cst_12 (constant S_ .f32 0x00000000#32),
    binary main_v18 main_cst_12 main_v19 ((fun x v => Host.reduceAdd x v reducesTo_S2048x12_S2048_d1 h_S_) : (⟨S2048x12, .f32⟩ : BufTy).Contents (Elt F) → (⟨S_, .f32⟩ : BufTy).Contents (Elt F) → (⟨S2048, .f32⟩ : BufTy).Contents (Elt F)),
    unary main_v19 main_v20 (broadcastInDim S2048x1 ![0] bcast_S2048_S2048x1_0 : (⟨S2048, .f32⟩ : BufTy).Contents (Elt F) → (⟨S2048x1, .f32⟩ : BufTy).Contents (Elt F)),
    unary main_v20 main_v21 (broadcastInDim S2048x12 ![0, 1] bcast_S2048x1_S2048x12_0_1 : (⟨S2048x1, .f32⟩ : BufTy).Contents (Elt F) → (⟨S2048x12, .f32⟩ : BufTy).Contents (Elt F)),
    binary main_v18 main_v21 main_v22 (Host.divf : (⟨S2048x12, .f32⟩ : BufTy).Contents (Elt F) → (⟨S2048x12, .f32⟩ : BufTy).Contents (Elt F) → (⟨S2048x12, .f32⟩ : BufTy).Contents (Elt F)) ]

/-- The operations of: the gates, scattered over the sixteen experts. -/
abbrev opsScatter : List (HloOp τ sig (Elt F)) :=
  [ nullary main_cst_13 (constant S_ .f32 0x00000000#32),
    unary main_cst_13 main_v23 (broadcastInDim S2048x16 ![] bcast_S_S2048x16 : (⟨S_, .f32⟩ : BufTy).Contents (Elt F) → (⟨S2048x16, .f32⟩ : BufTy).Contents (Elt F)),
    nullary main_v24 (iotaInDim S2048 32 0),
    unary main_v24 main_v25 (broadcastInDim S2048x1 ![0] bcast_S2048_S2048x1_0 : (⟨S2048, .i32⟩ : BufTy).Contents (Elt F) → (⟨S2048x1, .i32⟩ : BufTy).Contents (Elt F)),
    nullary main_c_14 (constantI S_ 32 0#32),
    unary main_c_14 main_v26 (broadcastInDim S2048x1 ![] bcast_S_S2048x1 : (⟨S_, .i32⟩ : BufTy).Contents (Elt F) → (⟨S2048x1, .i32⟩ : BufTy).Contents (Elt F)),
    binary main_v25 main_v26 main_v27 (cmpi .slt : (⟨S2048x1, .i32⟩ : BufTy).Contents (Elt F) → (⟨S2048x1, .i32⟩ : BufTy).Contents (Elt F) → (⟨S2048x1, .i1⟩ : BufTy).Contents (Elt F)),
    nullary main_c_15 (constantI S_ 32 2048#32),
    unary main_c_15 main_v28 (broadcastInDim S2048x1 ![] bcast_S_S2048x1 : (⟨S_, .i32⟩ : BufTy).Contents (Elt F) → (⟨S2048x1, .i32⟩ : BufTy).Contents (Elt F)),
    binary main_v25 main_v28 main_v29 (addi : (⟨S2048x1, .i32⟩ : BufTy).Contents (Elt F) → (⟨S2048x1, .i32⟩ : BufTy).Contents (Elt F) → (⟨S2048x1, .i32⟩ : BufTy).Contents (Elt F)),
    ternary main_v27 main_v29 main_v25 main_v30 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    nullary main_c_16 (constantI S_ 32 0#32),
    unary main_c_16 main_v31 (broadcastInDim S2048x12 ![] bcast_S_S2048x12 : (⟨S_, .i32⟩ : BufTy).Contents (Elt F) → (⟨S2048x12, .i32⟩ : BufTy).Contents (Elt F)),
    binary main_indices main_v31 main_v32 (cmpi .slt : (⟨S2048x12, .i32⟩ : BufTy).Contents (Elt F) → (⟨S2048x12, .i32⟩ : BufTy).Contents (Elt F) → (⟨S2048x12, .i1⟩ : BufTy).Contents (Elt F)),
    nullary main_c_17 (constantI S_ 32 16#32),
    unary main_c_17 main_v33 (broadcastInDim S2048x12 ![] bcast_S_S2048x12 : (⟨S_, .i32⟩ : BufTy).Contents (Elt F) → (⟨S2048x12, .i32⟩ : BufTy).Contents (Elt F)),
    binary main_indices main_v33 main_v34 (addi : (⟨S2048x12, .i32⟩ : BufTy).Contents (Elt F) → (⟨S2048x12, .i32⟩ : BufTy).Contents (Elt F) → (⟨S2048x12, .i32⟩ : BufTy).Contents (Elt F)),
    ternary main_v32 main_v34 main_indices main_v35 (select : (⟨S2048x12, .i1⟩ : BufTy).Contents (Elt F) → (⟨S2048x12, .i32⟩ : BufTy).Contents (Elt F) → (⟨S2048x12, .i32⟩ : BufTy).Contents (Elt F) → (⟨S2048x12, .i32⟩ : BufTy).Contents (Elt F)),
    unary main_v30 main_v36 (broadcastInDim S2048x12 ![0, 1] bcast_S2048x1_S2048x12_0_1 : (⟨S2048x1, .i32⟩ : BufTy).Contents (Elt F) → (⟨S2048x12, .i32⟩ : BufTy).Contents (Elt F)),
    unary main_v36 main_v37 (broadcastInDim S2048x12x1 ![0, 1] bcast_S2048x12_S2048x12x1_0_1 : (⟨S2048x12, .i32⟩ : BufTy).Contents (Elt F) → (⟨S2048x12x1, .i32⟩ : BufTy).Contents (Elt F)),
    unary main_v35 main_v38 (broadcastInDim S2048x12x1 ![0, 1] bcast_S2048x12_S2048x12x1_0_1 : (⟨S2048x12, .i32⟩ : BufTy).Contents (Elt F) → (⟨S2048x12x1, .i32⟩ : BufTy).Contents (Elt F)),
    binary main_v37 main_v38 main_v39 pairUp,
    ternary main_v23 main_v39 main_v22 main_v40 ((fun x i u => Host.scatter scatter_S2048x16_S2048x12x2_S2048x12_n_01_01_2 (fun _ b => b) x i u) : (⟨S2048x16, .f32⟩ : BufTy).Contents (Elt F) → (⟨S2048x12x2, .i32⟩ : BufTy).Contents (Elt F) → (⟨S2048x12, .f32⟩ : BufTy).Contents (Elt F) → (⟨S2048x16, .f32⟩ : BufTy).Contents (Elt F)) ]

/-- The operations of: the load. -/
abbrev opsLoad : List (HloOp τ sig (Elt F)) :=
  [ nullary main_cst_18 (constant S_ .f32 0x00000000#32),
    unary main_cst_18 main_v41 (broadcastInDim S2048x16 ![] bcast_S_S2048x16 : (⟨S_, .f32⟩ : BufTy).Contents (Elt F) → (⟨S2048x16, .f32⟩ : BufTy).Contents (Elt F)),
    binary main_v40 main_v41 main_v42 (cmpf .ogt : (⟨S2048x16, .f32⟩ : BufTy).Contents (Elt F) → (⟨S2048x16, .f32⟩ : BufTy).Contents (Elt F) → (⟨S2048x16, .i1⟩ : BufTy).Contents (Elt F)),
    unary main_v42 main_v43 (uitofp .f32 : (⟨S2048x16, .i1⟩ : BufTy).Contents (Elt F) → (⟨S2048x16, .f32⟩ : BufTy).Contents (Elt F)),
    nullary main_cst_19 (constant S_ .f32 0x00000000#32),
    binary main_v43 main_cst_19 main_v44 ((fun x v => Host.reduceAdd x v reducesTo_S2048x16_S16_d0 h_S_) : (⟨S2048x16, .f32⟩ : BufTy).Contents (Elt F) → (⟨S_, .f32⟩ : BufTy).Contents (Elt F) → (⟨S16, .f32⟩ : BufTy).Contents (Elt F)) ]

/-- The operations of: the experts' hidden layer. -/
abbrev opsHidden : List (HloOp τ sig (Elt F)) :=
  [ binary main_arg0 main_arg3 main_v45 ((fun l r => Host.dotGeneral dot_S2048x1024_S16x1024x256_S2048x16x256_1_1_0_02_n_n none l r) : (⟨S2048x1024, .f32⟩ : BufTy).Contents (Elt F) → (⟨S16x1024x256, .f32⟩ : BufTy).Contents (Elt F) → (⟨S2048x16x256, .f32⟩ : BufTy).Contents (Elt F)),
    unary main_arg4 main_v46 (broadcastInDim S1x16x256 ![1, 2] bcast_S16x256_S1x16x256_1_2 : (⟨S16x256, .f32⟩ : BufTy).Contents (Elt F) → (⟨S1x16x256, .f32⟩ : BufTy).Contents (Elt F)),
    unary main_v46 main_v47 (broadcastInDim S2048x16x256 ![0, 1, 2] bcast_S1x16x256_S2048x16x256_0_1_2 : (⟨S1x16x256, .f32⟩ : BufTy).Contents (Elt F) → (⟨S2048x16x256, .f32⟩ : BufTy).Contents (Elt F)),
    binary main_v45 main_v47 main_v48 (addf : (⟨S2048x16x256, .f32⟩ : BufTy).Contents (Elt F) → (⟨S2048x16x256, .f32⟩ : BufTy).Contents (Elt F) → (⟨S2048x16x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x16x256, .f32⟩) main_call0_v0) (broadcastInDim S2048x16x256 ![] bcast_S_S2048x16x256),
    TRef.binary (TRef.of (T := ⟨S2048x16x256, .f32⟩) main_v48) (TRef.of (T := ⟨S2048x16x256, .f32⟩) main_call0_v0) (TRef.of (T := ⟨S2048x16x256, .f32⟩) main_v49) maximumf ]

/-- The operations of: the experts' outputs, mixed by the gates. -/
abbrev opsMix : List (HloOp τ sig (Elt F)) :=
  [ binary main_arg5 main_v49 main_v50 ((fun l r => Host.dotGeneral dot_S16x256x1024_S2048x16x256_S16x1024x2048_1_2_2_0_0_1 none l r) : (⟨S16x256x1024, .f32⟩ : BufTy).Contents (Elt F) → (⟨S2048x16x256, .f32⟩ : BufTy).Contents (Elt F) → (⟨S16x1024x2048, .f32⟩ : BufTy).Contents (Elt F)),
    unary main_v50 main_v51 ((transpose S2048x16x1024 [2, 0, 1] · transposes_S16x1024x2048_S2048x16x1024_2_0_1) : (⟨S16x1024x2048, .f32⟩ : BufTy).Contents (Elt F) → (⟨S2048x16x1024, .f32⟩ : BufTy).Contents (Elt F)),
    unary main_arg6 main_v52 (broadcastInDim S1x16x1024 ![1, 2] bcast_S16x1024_S1x16x1024_1_2 : (⟨S16x1024, .f32⟩ : BufTy).Contents (Elt F) → (⟨S1x16x1024, .f32⟩ : BufTy).Contents (Elt F)),
    unary main_v52 main_v53 (broadcastInDim S2048x16x1024 ![0, 1, 2] bcast_S1x16x1024_S2048x16x1024_0_1_2 : (⟨S1x16x1024, .f32⟩ : BufTy).Contents (Elt F) → (⟨S2048x16x1024, .f32⟩ : BufTy).Contents (Elt F)),
    binary main_v51 main_v53 main_v54 (addf : (⟨S2048x16x1024, .f32⟩ : BufTy).Contents (Elt F) → (⟨S2048x16x1024, .f32⟩ : BufTy).Contents (Elt F) → (⟨S2048x16x1024, .f32⟩ : BufTy).Contents (Elt F)),
    binary main_v40 main_v54 main_v55 ((fun l r => Host.dotGeneral dot_S2048x16_S2048x16x1024_S2048x1024_1_1_n_2_0_0 none l r) : (⟨S2048x16, .f32⟩ : BufTy).Contents (Elt F) → (⟨S2048x16x1024, .f32⟩ : BufTy).Contents (Elt F) → (⟨S2048x1024, .f32⟩ : BufTy).Contents (Elt F)) ]

/-- The operations of: the residual and the output layer. -/
abbrev opsOut : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S2048x1024, .f32⟩) main_call1_v0) (broadcastInDim S2048x1024 ![] bcast_S_S2048x1024),
    TRef.binary (TRef.of (T := ⟨S2048x1024, .f32⟩) main_v55) (TRef.of (T := ⟨S2048x1024, .f32⟩) main_call1_v0) (TRef.of (T := ⟨S2048x1024, .f32⟩) main_v56) maximumf,
    binary main_v56 main_arg0 main_v57 (addf : (⟨S2048x1024, .f32⟩ : BufTy).Contents (Elt F) → (⟨S2048x1024, .f32⟩ : BufTy).Contents (Elt F) → (⟨S2048x1024, .f32⟩ : BufTy).Contents (Elt F)),
    binary main_v57 main_arg7 main_v58 ((fun l r => Host.dotGeneral dot_S2048x1024_S1024x1000_S2048x1000_1_0_0_1_n_n none l r) : (⟨S2048x1024, .f32⟩ : BufTy).Contents (Elt F) → (⟨S1024x1000, .f32⟩ : BufTy).Contents (Elt F) → (⟨S2048x1000, .f32⟩ : BufTy).Contents (Elt F)),
    unary main_arg8 main_v59 (broadcastInDim S1x1000 ![1] bcast_S1000_S1x1000_1 : (⟨S1000, .f32⟩ : BufTy).Contents (Elt F) → (⟨S1x1000, .f32⟩ : BufTy).Contents (Elt F)),
    unary main_v59 main_v60 (broadcastInDim S2048x1000 ![0, 1] bcast_S1x1000_S2048x1000_0_1 : (⟨S1x1000, .f32⟩ : BufTy).Contents (Elt F) → (⟨S2048x1000, .f32⟩ : BufTy).Contents (Elt F)),
    binary main_v58 main_v60 main_v61 (addf : (⟨S2048x1000, .f32⟩ : BufTy).Contents (Elt F) → (⟨S2048x1000, .f32⟩ : BufTy).Contents (Elt F) → (⟨S2048x1000, .f32⟩ : BufTy).Contents (Elt F)) ]

/-! ## What each stretch leaves -/

/-- The modality, counted from the end when negative. -/
def wrapped (mo : IVec S_ 32) : IVec S_ 32 := select (cmpi .slt mo (constantI S_ 32 0#32)) (addi mo (constantI S_ 32 2#32)) mo

/-- A start of zero, counted from the end `n` when negative (it is not). -/
def zeroStart (n : BitVec 32) : IVec S_ 32 :=
  select (cmpi .slt (constantI S_ 32 0#32) (constantI S_ 32 0#32)) (addi (constantI S_ 32 0#32) (constantI S_ 32 n)) (constantI S_ 32 0#32)

/-- The gating matrix at given starts, and the selected one. -/
def gatingAt (a b c : IVec S_ 32) (wg : FVec F S2x1024x16 .f32) : FVec F S1024x16 .f32 :=
  shapeCast S1024x16 (Host.dynamicSlice S1x1024x16 wg
    (fun k => ((![a, b, c] : Fin 3 → IVec S_ 32) k (Shape.Idx.first h_S_)).toInt) sliceFits_S2x1024x16_S1x1024x16) shapeCasts_S1x1024x16_S1024x16
/-- The gating matrix that the modality selects. -/
def gating (mo : IVec S_ 32) (wg : FVec F S2x1024x16 .f32) : FVec F S1024x16 .f32 :=
  gatingAt (wrapped mo) (zeroStart 1024#32) (zeroStart 16#32) wg

/-- The logits. -/
def logits (x : FVec F S2048x1024 .f32) (g : FVec F S1024x16 .f32) : FVec F S2048x16 .f32 :=
  Host.dotGeneral dot_S2048x1024_S1024x16_S2048x16_1_0_0_1_n_n none x g

/-- The twelve greatest of each row, and where they stand. -/
def topVals (l : FVec F S2048x16 .f32) : FVec F S2048x12 .f32 := (Host.topK S2048x12 1 (FloatOps.cmpfTotal .gt) l sliceFits_S2048x16_S2048x12).1
/-- The lanes of the twelve greatest logits of every row. -/
def topIdx (l : FVec F S2048x16 .f32) : IVec S2048x12 32 := (Host.topK S2048x12 1 (FloatOps.cmpfTotal .gt) l sliceFits_S2048x16_S2048x12).2

/-- The row maximum of the chosen logits, broadcast back. -/
def topMax (v : FVec F S2048x12 .f32) : FVec F S2048x12 .f32 :=
  broadcastInDim S2048x12 ![0, 1] bcast_S2048x1_S2048x12_0_1 (broadcastInDim S2048x1 ![0] bcast_S2048_S2048x1_0
    (maximumf (broadcastInDim S2048 ![] bcast_S_S2048 (constant S_ .f32 0xFF800000#32))
      (Host.reduce FloatOps.maximumf v (constant S_ .f32 0xFF800000#32) reducesTo_S2048x12_S2048_d1 h_S_)))

/-- Their exponentials, and the softmax. -/
def topExp (v : FVec F S2048x12 .f32) : FVec F S2048x12 .f32 := Host.exp (subf v (topMax v))
/-- The softmax of the chosen logits. -/
def softmax (v : FVec F S2048x12 .f32) : FVec F S2048x12 .f32 :=
  Host.divf (topExp v) (broadcastInDim S2048x12 ![0, 1] bcast_S2048x1_S2048x12_0_1 (broadcastInDim S2048x1 ![0] bcast_S2048_S2048x1_0
    (Host.reduceAdd (topExp v) (constant S_ .f32 0x00000000#32) reducesTo_S2048x12_S2048_d1 h_S_)))

/-- The row numbers and the expert numbers, each counted from the end when negative. -/
def rowNos : IVec S2048x1 32 := broadcastInDim S2048x1 ![0] bcast_S2048_S2048x1_0 (iotaInDim S2048 32 0)
/-- The scatter's row numbers, counted from the end when negative. -/
def rowIdx : IVec S2048x1 32 :=
  select (cmpi .slt rowNos (broadcastInDim S2048x1 ![] bcast_S_S2048x1 (constantI S_ 32 0#32)))
    (addi rowNos (broadcastInDim S2048x1 ![] bcast_S_S2048x1 (constantI S_ 32 2048#32))) rowNos
/-- The scatter's lane numbers, counted from the end when negative. -/
def colIdx (ix : IVec S2048x12 32) : IVec S2048x12 32 :=
  select (cmpi .slt ix (broadcastInDim S2048x12 ![] bcast_S_S2048x12 (constantI S_ 32 0#32)))
    (addi ix (broadcastInDim S2048x12 ![] bcast_S_S2048x12 (constantI S_ 32 16#32))) ix

/-- Where each chosen gate is written: its row and its expert. -/
def places (ix : IVec S2048x12 32) : IVec S2048x12x2 32 :=
  pairUp (F := F) (broadcastInDim S2048x12x1 ![0, 1] bcast_S2048x12_S2048x12x1_0_1 (broadcastInDim S2048x12 ![0, 1] bcast_S2048x1_S2048x12_0_1 rowIdx))
    (broadcastInDim S2048x12x1 ![0, 1] bcast_S2048x12_S2048x12x1_0_1 (colIdx ix))

/-- The gates: the softmax written at the chosen places over zeros. -/
def gates (ix : IVec S2048x12 32) (s : FVec F S2048x12 .f32) : FVec F S2048x16 .f32 :=
  Host.scatter scatter_S2048x16_S2048x12x2_S2048x12_n_01_01_2 (fun _ b => b)
    (broadcastInDim S2048x16 ![] bcast_S_S2048x16 (constant S_ .f32 0x00000000#32)) (places (F := F) ix) s

/-- The load: how many rows give each expert a positive gate. -/
def load (g : FVec F S2048x16 .f32) : FVec F S16 .f32 :=
  Host.reduceAdd (uitofp .f32 (cmpf .ogt g (broadcastInDim S2048x16 ![] bcast_S_S2048x16 (constant S_ .f32 0x00000000#32))))
    (constant S_ .f32 0x00000000#32) reducesTo_S2048x16_S16_d0 h_S_

/-- The experts' hidden layer. -/
def hidden (x : FVec F S2048x1024 .f32) (w1 : FVec F S16x1024x256 .f32) (b1 : FVec F S16x256 .f32) : FVec F S2048x16x256 .f32 :=
  maximumf (addf (Host.dotGeneral dot_S2048x1024_S16x1024x256_S2048x16x256_1_1_0_02_n_n none x w1)
    (broadcastInDim S2048x16x256 ![0, 1, 2] bcast_S1x16x256_S2048x16x256_0_1_2 (broadcastInDim S1x16x256 ![1, 2] bcast_S16x256_S1x16x256_1_2 b1)))
    (broadcastInDim S2048x16x256 ![] bcast_S_S2048x16x256 (constant S_ .f32 0x00000000#32))

/-- The experts' outputs, mixed by the gates. -/
def mixed (g : FVec F S2048x16 .f32) (h : FVec F S2048x16x256 .f32) (w2 : FVec F S16x256x1024 .f32) (b2 : FVec F S16x1024 .f32) : FVec F S2048x1024 .f32 :=
  Host.dotGeneral dot_S2048x16_S2048x16x1024_S2048x1024_1_1_n_2_0_0 none g
    (addf (transpose S2048x16x1024 [2, 0, 1] (Host.dotGeneral dot_S16x256x1024_S2048x16x256_S16x1024x2048_1_2_2_0_0_1 none w2 h)
        transposes_S16x1024x2048_S2048x16x1024_2_0_1)
      (broadcastInDim S2048x16x1024 ![0, 1, 2] bcast_S1x16x1024_S2048x16x1024_0_1_2 (broadcastInDim S1x16x1024 ![1, 2] bcast_S16x1024_S1x16x1024_1_2 b2)))

/-- The output layer over the mixed experts and the residual. -/
def output (x mx : FVec F S2048x1024 .f32) (wo : FVec F S1024x1000 .f32) (bo : FVec F S1000 .f32) : FVec F S2048x1000 .f32 :=
  addf (Host.dotGeneral dot_S2048x1024_S1024x1000_S2048x1000_1_0_0_1_n_n none
      (addf (maximumf mx (broadcastInDim S2048x1024 ![] bcast_S_S2048x1024 (constant S_ .f32 0x00000000#32))) x) wo)
    (broadcastInDim S2048x1000 ![0, 1] bcast_S1x1000_S2048x1000_0_1 (broadcastInDim S1x1000 ![1] bcast_S1000_S1x1000_1 bo))

variable (V : Valuation τ sig (Elt F))

/-- The first start of the slice is the modality, wrapped. -/
theorem after_start0 : after opsStarts V (Proc.devRef .tc main_v2) = wrapped (V (Proc.devRef .tc main_arg1)) := by
  after_results_simp; rfl
/-- The second start of the slice is zero, wrapped. -/
theorem after_start1 : after opsStarts V (Proc.devRef .tc main_v5) = zeroStart 1024#32 := by after_results_simp; rfl
/-- The third start of the slice is zero, wrapped. -/
theorem after_start2 : after opsStarts V (Proc.devRef .tc main_v8) = zeroStart 16#32 := by after_results_simp; rfl

/-- What the second stretch leaves: the logits. -/
theorem after_logits : after opsLogits V (Proc.devRef .tc main_v11)
    = logits (V (Proc.devRef .tc main_arg0)) (gatingAt (V (Proc.devRef .tc main_v2)) (V (Proc.devRef .tc main_v5)) (V (Proc.devRef .tc main_v8))
        (V (Proc.devRef .tc main_arg2))) := by
  after_results_simp
  refine congrArg (a₂ := fun k => ((![V (Proc.devRef .tc main_v2), V (Proc.devRef .tc main_v5), V (Proc.devRef .tc main_v8)] :
      Fin 3 → IVec S_ 32) k (Shape.Idx.first h_S_)).toInt)
    (fun f : Fin 3 → ℤ => logits (V (Proc.devRef .tc main_arg0)) (shapeCast S1024x16 (Host.dynamicSlice S1x1024x16 (V (Proc.devRef .tc main_arg2)) f
      sliceFits_S2x1024x16_S1x1024x16) shapeCasts_S1x1024x16_S1024x16)) (funext fun k => ?_)
  fin_cases k <;> rfl

/-- What the third stretch leaves as the chosen lanes. -/
theorem after_top_idx : after opsTop V (Proc.devRef .tc main_indices) = topIdx (V (Proc.devRef .tc main_v11)) := by
  after_results_simp; rfl

/-- What the third stretch leaves as their softmax. -/
theorem after_top : after opsTop V (Proc.devRef .tc main_v22) = softmax (topVals (V (Proc.devRef .tc main_v11))) := by
  after_results_simp; rfl

/-- What the fourth stretch leaves: the gates. -/
theorem after_scatter : after opsScatter V (Proc.devRef .tc main_v40)
    = gates (V (Proc.devRef .tc main_indices)) (V (Proc.devRef .tc main_v22)) := by
  after_results_simp; rfl

/-- What the fifth stretch leaves: the load. -/
theorem after_load : after opsLoad V (Proc.devRef .tc main_v44) = load (V (Proc.devRef .tc main_v40)) := by
  after_results_simp; rfl

/-- What the sixth stretch leaves: the experts' hidden units. -/
theorem after_hidden : after opsHidden V (Proc.devRef .tc main_v49)
    = hidden (V (Proc.devRef .tc main_arg0)) (V (Proc.devRef .tc main_arg3)) (V (Proc.devRef .tc main_arg4)) := by
  simp only [opsHidden, TRef.binary, TRef.nullary, TRef.unary, TRef.toBuf, TRef.ofBuf, cast_eq]
  after_results_simp; rfl

/-- What the seventh stretch leaves: the experts mixed by the gates. -/
theorem after_mix : after opsMix V (Proc.devRef .tc main_v55)
    = mixed (V (Proc.devRef .tc main_v40)) (V (Proc.devRef .tc main_v49)) (V (Proc.devRef .tc main_arg5)) (V (Proc.devRef .tc main_arg6)) := by
  after_results_simp; rfl

/-- What the last stretch leaves: the output. -/
theorem after_out : after opsOut V (Proc.devRef .tc main_v61)
    = output (V (Proc.devRef .tc main_arg0)) (V (Proc.devRef .tc main_v55)) (V (Proc.devRef .tc main_arg7)) (V (Proc.devRef .tc main_arg8)) := by
  simp only [opsOut, TRef.binary, TRef.nullary, TRef.unary, TRef.toBuf, TRef.ofBuf, cast_eq]
  after_results_simp; rfl

/-! ## What each stretch leaves alone: every buffer outside the list it writes -/

/-- The buffers that the first stretch writes. -/
def wStarts : List (Ref sig .tc) :=
  [main_c, main_v0, main_c_0, main_v1, main_v2, main_c_1, main_c_2, main_v3, main_c_3, main_c_4, main_v4, main_c_5,
   main_v5, main_c_6, main_c_7, main_v6, main_c_8, main_c_9, main_v7, main_c_10, main_v8]
/-- The first stretch leaves every other buffer alone. -/
theorem keepStarts {r : Ref sig .tc} (hr : r ∉ wStarts) : after opsStarts V (Proc.devRef .tc r) = V (Proc.devRef .tc r) :=
  after_unwritten wStarts rfl hr V

/-- The buffers that the second stretch writes. -/
def wLogits : List (Ref sig .tc) :=
  [main_v9, main_v10, main_v11]
/-- The second stretch leaves every other buffer alone. -/
theorem keepLogits {r : Ref sig .tc} (hr : r ∉ wLogits) : after opsLogits V (Proc.devRef .tc r) = V (Proc.devRef .tc r) :=
  after_unwritten wLogits rfl hr V

/-- The buffers that the third stretch writes. -/
def wTop : List (Ref sig .tc) :=
  [main_values, main_indices, main_cst, main_v12, main_cst_11, main_v13, main_v14, main_v15, main_v16, main_v17,
   main_v18, main_cst_12, main_v19, main_v20, main_v21, main_v22]
/-- The third stretch leaves every other buffer alone. -/
theorem keepTop {r : Ref sig .tc} (hr : r ∉ wTop) : after opsTop V (Proc.devRef .tc r) = V (Proc.devRef .tc r) :=
  after_unwritten wTop rfl hr V

/-- The buffers that the fourth stretch writes. -/
def wScatter : List (Ref sig .tc) :=
  [main_cst_13, main_v23, main_v24, main_v25, main_c_14, main_v26, main_v27, main_c_15, main_v28, main_v29, main_v30,
   main_c_16, main_v31, main_v32, main_c_17, main_v33, main_v34, main_v35, main_v36, main_v37, main_v38, main_v39,
   main_v40]
/-- The fourth stretch leaves every other buffer alone. -/
theorem keepScatter {r : Ref sig .tc} (hr : r ∉ wScatter) : after opsScatter V (Proc.devRef .tc r) = V (Proc.devRef .tc r) :=
  after_unwritten wScatter rfl hr V

/-- The buffers that the fifth stretch writes. -/
def wLoad : List (Ref sig .tc) :=
  [main_cst_18, main_v41, main_v42, main_v43, main_cst_19, main_v44]
/-- The fifth stretch leaves every other buffer alone. -/
theorem keepLoad {r : Ref sig .tc} (hr : r ∉ wLoad) : after opsLoad V (Proc.devRef .tc r) = V (Proc.devRef .tc r) :=
  after_unwritten wLoad rfl hr V

/-- The buffers that the sixth stretch writes. -/
def wHidden : List (Ref sig .tc) :=
  [main_v45, main_v46, main_v47, main_v48, main_call0_cst, main_call0_v0, main_v49]
/-- The sixth stretch leaves every other buffer alone. -/
theorem keepHidden {r : Ref sig .tc} (hr : r ∉ wHidden) : after opsHidden V (Proc.devRef .tc r) = V (Proc.devRef .tc r) :=
  after_unwritten wHidden rfl hr V

/-- The buffers that the seventh stretch writes. -/
def wMix : List (Ref sig .tc) :=
  [main_v50, main_v51, main_v52, main_v53, main_v54, main_v55]
/-- The seventh stretch leaves every other buffer alone. -/
theorem keepMix {r : Ref sig .tc} (hr : r ∉ wMix) : after opsMix V (Proc.devRef .tc r) = V (Proc.devRef .tc r) :=
  after_unwritten wMix rfl hr V

/-- The buffers that the last stretch writes. -/
def wOut : List (Ref sig .tc) :=
  [main_call1_cst, main_call1_v0, main_v56, main_v57, main_v58, main_v59, main_v60, main_v61]
/-- The last stretch leaves every other buffer alone. -/
theorem keepOut {r : Ref sig .tc} (hr : r ∉ wOut) : after opsOut V (Proc.devRef .tc r) = V (Proc.devRef .tc r) :=
  after_unwritten wOut rfl hr V

/-! ## The run -/

/-- The whole program's operations. -/
abbrev ops : List (HloOp τ sig (Elt F)) :=
  opsStarts ++ (opsLogits ++ (opsTop ++ (opsScatter ++ (opsLoad ++ (opsHidden ++ (opsMix ++ opsOut))))))

/-- The contents after the whole program, stretch by stretch. -/
theorem after_ops : after ops V = after opsOut (after opsMix (after opsHidden (after opsLoad (after opsScatter (after opsTop (after opsLogits (after opsStarts V))))))) := by
  unfold ops
  rw [StableHlo.after_append, StableHlo.after_append, StableHlo.after_append, StableHlo.after_append, StableHlo.after_append, StableHlo.after_append, StableHlo.after_append]

/-- A buffer no stretch writes keeps what it held. -/
theorem keep_ops {r : Ref sig .tc} (h0 : r ∉ wStarts) (h1 : r ∉ wLogits) (h2 : r ∉ wTop) (h3 : r ∉ wScatter) (h4 : r ∉ wLoad) (h5 : r ∉ wHidden)
    (h6 : r ∉ wMix) (h7 : r ∉ wOut) : after ops V (Proc.devRef .tc r) = V (Proc.devRef .tc r) := by
  rw [after_ops, keepOut _ h7, keepMix _ h6, keepHidden _ h5, keepLoad _ h4, keepScatter _ h3, keepTop _ h2, keepLogits _ h1, keepStarts _ h0]

/-- The reference's gates, from the tokens, the modality and the gating matrices. -/
def gatesOf (x : FVec F S2048x1024 .f32) (mo : IVec S_ 32) (wg : FVec F S2x1024x16 .f32) : FVec F S2048x16 .f32 :=
  gates (topIdx (logits x (gating mo wg))) (softmax (topVals (logits x (gating mo wg))))

/-- What the whole reference leaves as the gates. -/
theorem after_gates : after ops V (Proc.devRef .tc main_v40)
    = gatesOf (V (Proc.devRef .tc main_arg0)) (V (Proc.devRef .tc main_arg1)) (V (Proc.devRef .tc main_arg2)) := by
  rw [after_ops, keepOut _ (by decide), keepMix _ (by decide), keepHidden _ (by decide), keepLoad _ (by decide), after_scatter, after_top_idx,
    after_top, after_logits, after_start0, after_start1, after_start2,
    keepStarts _ (r := main_arg0) (by decide), keepStarts _ (r := main_arg2) (by decide)]
  rfl

/-- What the whole reference leaves as the load. -/
theorem after_loads : after ops V (Proc.devRef .tc main_v44)
    = load (gatesOf (V (Proc.devRef .tc main_arg0)) (V (Proc.devRef .tc main_arg1)) (V (Proc.devRef .tc main_arg2))) := by
  rw [after_ops, keepOut _ (by decide), keepMix _ (by decide), keepHidden _ (by decide), after_load, after_scatter, after_top_idx,
    after_top, after_logits, after_start0, after_start1, after_start2,
    keepStarts _ (r := main_arg0) (by decide), keepStarts _ (r := main_arg2) (by decide)]
  rfl

/-- What the whole reference leaves as the output. -/
theorem after_output : after ops V (Proc.devRef .tc main_v61)
    = output (V (Proc.devRef .tc main_arg0))
        (mixed (gatesOf (V (Proc.devRef .tc main_arg0)) (V (Proc.devRef .tc main_arg1)) (V (Proc.devRef .tc main_arg2)))
          (hidden (V (Proc.devRef .tc main_arg0)) (V (Proc.devRef .tc main_arg3)) (V (Proc.devRef .tc main_arg4)))
          (V (Proc.devRef .tc main_arg5)) (V (Proc.devRef .tc main_arg6)))
        (V (Proc.devRef .tc main_arg7)) (V (Proc.devRef .tc main_arg8)) := by
  have k : ∀ {r : Ref sig .tc}, r ∉ wStarts → r ∉ wLogits → r ∉ wTop → r ∉ wScatter → r ∉ wLoad →
      after opsLoad (after opsScatter (after opsTop (after opsLogits (after opsStarts V)))) (Proc.devRef .tc r) = V (Proc.devRef .tc r) := by
    intro r h0 h1 h2 h3 h4
    rw [keepLoad _ h4, keepScatter _ h3, keepTop _ h2, keepLogits _ h1, keepStarts _ h0]
  rw [after_ops, after_out, after_mix, after_hidden]
  rw [keepMix _ (r := main_arg0) (by decide), keepHidden _ (r := main_arg0) (by decide), k (r := main_arg0) (by decide) (by decide) (by decide) (by decide) (by decide)]
  rw [keepMix _ (r := main_arg7) (by decide), keepHidden _ (r := main_arg7) (by decide), k (r := main_arg7) (by decide) (by decide) (by decide) (by decide) (by decide)]
  rw [keepMix _ (r := main_arg8) (by decide), keepHidden _ (r := main_arg8) (by decide), k (r := main_arg8) (by decide) (by decide) (by decide) (by decide) (by decide)]
  rw [keepHidden _ (r := main_arg5) (by decide), k (r := main_arg5) (by decide) (by decide) (by decide) (by decide) (by decide)]
  rw [keepHidden _ (r := main_arg6) (by decide), k (r := main_arg6) (by decide) (by decide) (by decide) (by decide) (by decide)]
  rw [k (r := main_arg3) (by decide) (by decide) (by decide) (by decide) (by decide), k (r := main_arg4) (by decide) (by decide) (by decide) (by decide) (by decide)]
  rw [keepHidden _ (r := main_v40) (by decide), keepLoad _ (r := main_v40) (by decide), after_scatter, after_top_idx, after_top, after_logits, after_start0, after_start1, after_start2,
    keepStarts _ (r := main_arg0) (by decide), keepStarts _ (r := main_arg2) (by decide)]
  rfl

/-- The printed reference is its operations in order. -/
theorem main_eq (c : Dev nD) : main (F := F) c = seq ops := rfl

/-- The reference has no scoped buffer. -/
theorem scopedRefs_none : (Finset.univ.filter fun b : Ref sig .tc => b.isScoped) = ∅ := by decide
/-- The reference has no scoped semaphore. -/
theorem scopedSems_none : (Finset.univ.filter fun sm : SemLoc sig => sm.isScoped .tc) = ∅ := by decide

/-! Every operation touches the core's own buffers alone. -/

/-- The first stretch stays within the core's own buffers. -/
theorem subStarts : (opsStarts : List (HloOp τ sig (Elt F))).Forall fun op => op.bufs ⊆ tcRefs τ sig :=
  ⟨nullary_bufs_sub .., binary_bufs_sub .., nullary_bufs_sub .., binary_bufs_sub .., ternary_bufs_sub .., nullary_bufs_sub ..,
   nullary_bufs_sub .., binary_bufs_sub .., nullary_bufs_sub .., nullary_bufs_sub .., binary_bufs_sub .., nullary_bufs_sub ..,
   ternary_bufs_sub .., nullary_bufs_sub .., nullary_bufs_sub .., binary_bufs_sub .., nullary_bufs_sub .., nullary_bufs_sub ..,
   binary_bufs_sub .., nullary_bufs_sub .., ternary_bufs_sub ..⟩
/-- The second stretch stays within the core's own buffers. -/
theorem subLogits : (opsLogits : List (HloOp τ sig (Elt F))).Forall fun op => op.bufs ⊆ tcRefs τ sig :=
  ⟨unaryIndexed_bufs_sub .., reshape_bufs_sub .., binary_bufs_sub ..⟩
/-- The third stretch stays within the core's own buffers. -/
theorem subTop : (opsTop : List (HloOp τ sig (Elt F))).Forall fun op => op.bufs ⊆ tcRefs τ sig :=
  ⟨unary_bufs_sub .., unary_bufs_sub .., nullary_bufs_sub .., binary_bufs_sub .., nullary_bufs_sub .., unary_bufs_sub .., binary_bufs_sub
   .., unary_bufs_sub .., unary_bufs_sub .., binary_bufs_sub .., unary_bufs_sub .., nullary_bufs_sub .., binary_bufs_sub .., unary_bufs_sub
   .., unary_bufs_sub .., binary_bufs_sub ..⟩
/-- The fourth stretch stays within the core's own buffers. -/
theorem subScatter : (opsScatter : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub
   .., nullary_bufs_sub .., unary_bufs_sub .., binary_bufs_sub .., ternary_bufs_sub .., nullary_bufs_sub .., unary_bufs_sub ..,
   binary_bufs_sub .., nullary_bufs_sub .., unary_bufs_sub .., binary_bufs_sub .., ternary_bufs_sub .., unary_bufs_sub .., unary_bufs_sub
   .., unary_bufs_sub .., binary_bufs_sub .., ternary_bufs_sub ..⟩
/-- The fifth stretch stays within the core's own buffers. -/
theorem subLoad : (opsLoad : List (HloOp τ sig (Elt F))).Forall fun op => op.bufs ⊆ tcRefs τ sig :=
  ⟨nullary_bufs_sub .., unary_bufs_sub .., binary_bufs_sub .., unary_bufs_sub .., nullary_bufs_sub .., binary_bufs_sub ..⟩
/-- The sixth stretch stays within the core's own buffers. -/
theorem subHidden : (opsHidden : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
/-- The seventh stretch stays within the core's own buffers. -/
theorem subMix : (opsMix : List (HloOp τ sig (Elt F))).Forall fun op => op.bufs ⊆ tcRefs τ sig :=
  ⟨binary_bufs_sub .., unary_bufs_sub .., unary_bufs_sub .., unary_bufs_sub .., binary_bufs_sub .., binary_bufs_sub ..⟩
/-- The last stretch stays within the core's own buffers. -/
theorem subOut : (opsOut : List (HloOp τ sig (Elt F))).Forall fun op => op.bufs ⊆ tcRefs τ sig :=
  ⟨nullary_bufs_sub .., unary_bufs_sub .., binary_bufs_sub .., binary_bufs_sub .., binary_bufs_sub .., unary_bufs_sub .., unary_bufs_sub ..,
   binary_bufs_sub ..⟩

/-- All of the reference's operations stay within the core's own buffers. -/
theorem ops_sub : (ops : List (HloOp τ sig (Elt F))).Forall fun op => op.bufs ⊆ tcRefs τ sig := by
  simp only [ops, List.forall_append]
  exact ⟨subStarts, subLogits, subTop, subScatter, subLoad, subHidden, subMix, subOut⟩

/-- The run: the three results at the functions above, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v61)
          = output (m ((c.tc : Thread nD τ).loc main_arg0))
              (mixed (gatesOf (m ((c.tc : Thread nD τ).loc main_arg0)) (m ((c.tc : Thread nD τ).loc main_arg1)) (m ((c.tc : Thread nD τ).loc main_arg2)))
                (hidden (m ((c.tc : Thread nD τ).loc main_arg0)) (m ((c.tc : Thread nD τ).loc main_arg3)) (m ((c.tc : Thread nD τ).loc main_arg4)))
                (m ((c.tc : Thread nD τ).loc main_arg5)) (m ((c.tc : Thread nD τ).loc main_arg6)))
              (m ((c.tc : Thread nD τ).loc main_arg7)) (m ((c.tc : Thread nD τ).loc main_arg8)))
      ∧ (r.2.mem ((c.tc : Thread nD τ).loc main_v40)
          = gatesOf (m ((c.tc : Thread nD τ).loc main_arg0)) (m ((c.tc : Thread nD τ).loc main_arg1)) (m ((c.tc : Thread nD τ).loc main_arg2)))
      ∧ (r.2.mem ((c.tc : Thread nD τ).loc main_v44)
          = load (gatesOf (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have k : ∀ (c : Dev nD) (r : Ref sig .tc), r ∉ wStarts → r ∉ wLogits → r ∉ wTop → r ∉ wScatter → r ∉ wLoad → r ∉ wHidden → r ∉ wMix → r ∉ wOut →
      after (ops (F := F)) (launchContents m c) (Proc.devRef .tc r) = m ((c.tc : Thread nD τ).loc r) :=
    fun c r h0 h1 h2 h3 h4 h5 h6 h7 => keep_ops _ h0 h1 h2 h3 h4 h5 h6 h7
  exact (θ_run defs _ _).mono (fun _ h c => ⟨(h c main_v61).trans (after_output _), (h c main_v40).trans (after_gates _), (h c main_v44).trans (after_loads _),
      (h c main_arg0).trans (k c _ (by decide) (by decide) (by decide) (by decide) (by decide) (by decide) (by decide) (by decide)),
      (h c main_arg1).trans (k c _ (by decide) (by decide) (by decide) (by decide) (by decide) (by decide) (by decide) (by decide)),
      (h c main_arg2).trans (k c _ (by decide) (by decide) (by decide) (by decide) (by decide) (by decide) (by decide) (by decide)),
      (h c main_arg3).trans (k c _ (by decide) (by decide) (by decide) (by decide) (by decide) (by decide) (by decide) (by decide)),
      (h c main_arg4).trans (k c _ (by decide) (by decide) (by decide) (by decide) (by decide) (by decide) (by decide) (by decide)),
      (h c main_arg5).trans (k c _ (by decide) (by decide) (by decide) (by decide) (by decide) (by decide) (by decide) (by decide)),
      (h c main_arg6).trans (k c _ (by decide) (by decide) (by decide) (by decide) (by decide) (by decide) (by decide) (by decide)),
      (h c main_arg7).trans (k c _ (by decide) (by decide) (by decide) (by decide) (by decide) (by decide) (by decide) (by decide)),
      (h c main_arg8).trans (k c _ (by decide) (by decide) (by decide) (by decide) (by decide) (by decide) (by decide) (by decide))⟩)
    (run_seq scopedRefs_none scopedSems_none defs main (fun _ => ops) main_eq (fun _ => ops_sub) m ρ)

end Cert.MoE.Ref

end
-- ==== Proof.Frames.lean ====
/-
  The frames: each program runs to its end, changes none of its arguments and leaves every semaphore counter at zero.
-/
module

public import proofs.«01_k».proof.Defs
public import proofs.«01_k».proof.Proof.Run
public import proofs.«01_k».proof.Proof.Pre
public import proofs.«01_k».proof.Proof.Gen.Kernel
public import proofs.«01_k».proof.Proof.RefRun
public import Idealize.ShloMosaic.Lib.Quiescent

@[expose] public section

noncomputable section

namespace Cert.MoE

open Idealize.ShloMosaic Idealize.SL.Sem

/-- The kernel as printed and its idealized copy have one body and one table of labels, at any float. -/
theorem defs₀_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl

/-- The two printings of the kernel define the same procedures. -/
theorem defs_eq {F : FTy → Type} [FloatOps F] : Cert.Kernel.defs (F := F) = Cert.KernelIdeal.defs (F := F) := by
  unfold Cert.Kernel.defs Cert.KernelIdeal.defs
  rw [defs₀_eq]
  rfl

/-- The kernel at machine words: the one run, read at words. -/
theorem frame_kernel : Cert.quiescent_Kernel := by
  intro m ρ _
  rw [defs_eq]
  exact frame_run (F := Bits) m ρ

/-- The kernel at the extended reals: the same run. -/
theorem frame_ideal : Cert.quiescent_KernelIdeal := fun m ρ _ => frame_run m ρ

/-- The same under the precondition. -/
theorem frame_ideal_pre [Cert.Pre_zero_biases_finite_gating.Facts] : Cert.quiescent_KernelIdeal_pre_zero_biases_finite_gating :=
  fun m ρ _ => frame_run m ρ

/-- The reference: its run's arguments, and it has no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.MoE.Ref.run (F := Ideal) m ρ)

/-- The same under the precondition. -/
theorem frame_reference_pre [Cert.Pre_zero_biases_finite_gating.Facts] : Cert.quiescent_ReferenceIdeal_pre_zero_biases_finite_gating :=
  fun m ρ _ => frame_reference m ρ trivial

end Cert.MoE

end
-- ==== Proof.Host.lean ====
/-
  What the kernel's windows hold, at an index: the arrays the host operations leave before the launch, and each window's
  block of them.
-/
module

public import proofs.«01_k».proof.Proof.Run
public import proofs.«01_k».proof.Proof.RefRun
public import Idealize.ShloMosaic.Lib.Pointwise
public import Idealize.ShloMosaic.Lib.Claim
public import Idealize.ShloMosaic.Lib.Pipeline.ValueKit

@[expose] public section

set_option maxRecDepth 16384

noncomputable section

namespace Cert.MoE

open Cert.KernelIdeal Cert.KernelIdeal.Gen
open Idealize.ShloMosaic Idealize.ShloMosaic.TcCoe

variable (m : (ℓ : Loc nD τ sig) → Buf (Elt Ideal) ℓ) (c : Dev nD)

/-- Unit `256 e + h` is unit `h` of expert `e`. -/
theorem unit_split {α : Type} (e : Fin 16) (h : Fin 256) (f : Fin 16 → Fin 256 → α) :
    f ⟨(e.val * 256 + h.val) / 256, by omega⟩ ⟨(e.val * 256 + h.val) % 256, by omega⟩ = f e h := by
  congr 1
  · exact Fin.ext (show (e.val * 256 + h.val) / 256 = e.val by omega)
  · exact Fin.ext (show (e.val * 256 + h.val) % 256 = h.val by omega)

/-- The first layer's array: expert `e`'s unit `h` is column `256 e + h`. -/
theorem V_first (i : Fin 1024) (e : Fin 16) (h : Fin 256) :
    V m c main_v14 (ix2 i ⟨e.val * 256 + h.val, by omega⟩) = m ((c : Thread nD τ).loc main_arg3) (ix3 e i h) := by
  show StableHlo.after hostOps0 _ _ _ = _
  after_results_simp
  pointwise []
  exact congrArg (m ((c : Thread nD τ).loc main_arg3)) (unit_split e h fun a b => ix3 a i b)

/-- The second layer's array: expert `e`'s unit `h` is row `256 e + h`. -/
theorem V_second (e : Fin 16) (h : Fin 256) (d : Fin 1024) :
    V m c main_v16 (ix2 ⟨e.val * 256 + h.val, by omega⟩ d) = m ((c : Thread nD τ).loc main_arg5) (ix3 e h d) := by
  show StableHlo.after hostOps0 _ _ _ = _
  after_results_simp
  pointwise []
  exact congrArg (m ((c : Thread nD τ).loc main_arg5)) (unit_split e h fun a b => ix3 a b d)

/-- The output layer's array. -/
theorem V_out (d : Fin 1024) (o : Fin 1000) : V m c main_v17 (ix2 d o) = m ((c : Thread nD τ).loc main_arg7) (ix2 d o) := by
  show StableHlo.after hostOps0 _ _ _ = _
  after_results_simp
  pointwise []

/-- The gating matrix is the reference's. -/
theorem V_gating (d : Fin 1024) (e : Fin 16) :
    V m c main_v11 (ix2 d e) = Ref.gating (F := Ideal) (m ((c : Thread nD τ).loc main_arg1)) (m ((c : Thread nD τ).loc main_arg2)) (ix2 d e) := by
  show StableHlo.after hostOps0 _ _ _ = _
  after_results_simp
  refine congrArg (a₂ := fun k => ((![Ref.wrapped (m ((c : Thread nD τ).loc main_arg1)), Ref.zeroStart 1024#32, Ref.zeroStart 16#32] :
      Fin 3 → IVec S_ 32) k (Shape.Idx.first h_S_)).toInt)
    (fun f : Fin 3 → ℤ => (shapeCast S1024x16 (Host.dynamicSlice S1x1024x16 (m ((c : Thread nD τ).loc main_arg2)) f
      sliceFits_S2x1024x16_S1x1024x16) shapeCasts_S1x1024x16_S1024x16 : FVec Ideal S1024x16 .f32) (ix2 d e)) (funext fun k => ?_)
  fin_cases k <;> rfl

/-- Which block each window reads at a grid point. -/
theorem idx : ∀ t : Fin cfg0.N,
    win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0
    ∧ win0_6.index t 0 = t.val ∧ win0_6.index t 1 = 0 :=
  (by decide +kernel : ∀ t : Fin grid0.N, _)

/-- A token's place: row `r` of block `t`. -/
def token (t : Fin cfg0.N) (r : Fin 256) : Fin 2048 := ⟨t.val * 256 + r.val, by have := t.isLt; have : cfg0.N = 8 := N_0; omega⟩

/-- The tokens' block. -/
theorem blk0 (t : Fin cfg0.N) (r : Fin 256) (d : Fin 1024) :
    iblk m c 0 t (ix2 r d) = m ((c : Thread nD τ).loc main_arg0) (ix2 (token t r) d) := by
  blk_ext [iblk, V, token, idx t]

/-- The weights' windows hold their whole arrays. -/
theorem blk1 (t : Fin cfg0.N) (a : Fin 1024) (b : Fin 16) : iblk m c 1 t (ix2 a b) = V m c main_v11 (ix2 a b) := by
  blk_ext [iblk, idx t]
/-- The window of the first layer holds the whole array. -/
theorem blk2 (t : Fin cfg0.N) (a : Fin 1024) (b : Fin 4096) : iblk m c 2 t (ix2 a b) = V m c main_v14 (ix2 a b) := by
  blk_ext [iblk, idx t]
/-- The window of the second layer holds the whole array. -/
theorem blk3 (t : Fin cfg0.N) (a : Fin 4096) (b : Fin 1024) : iblk m c 3 t (ix2 a b) = V m c main_v16 (ix2 a b) := by
  blk_ext [iblk, idx t]
/-- The window of the classifier holds the whole array. -/
theorem blk4 (t : Fin cfg0.N) (a : Fin 1024) (b : Fin 1000) : iblk m c 4 t (ix2 a b) = V m c main_v17 (ix2 a b) := by
  blk_ext [iblk, idx t]

end Cert.MoE

end
-- ==== Proof.Bits.lean ====
/-
  The kernel's literals and its counted bits as extended reals: twelve and the two infinities, a bit widened and read as
  a number, a sum of such numbers, the lanes' order as the body tests it.
-/
module

public import Idealize.ShloMosaic.Lib.Pointwise
public import Idealize.ShloMosaic.Lib.IdealHost

@[expose] public section

noncomputable section

namespace Cert.MoE

open Idealize.ShloMosaic

/-- The literal twelve. -/
theorem lit_twelve : Ideal.ofBits .f32 0x41400000#32 = ((12 : ℕ) : EReal) := by
  rw [show ((12 : ℕ) : EReal) = ((12 : ℝ) : EReal) by norm_cast]
  simp [Ideal.ofBits, Ideal.ieee, -EReal.coe_mul]; norm_num

/-- The two infinities. -/
theorem lit_top : Ideal.ofBits .f32 0x7F800000#32 = ⊤ := by simp [Ideal.ofBits, Ideal.ieee]
/-- The word of minus infinity is the least extended real. -/
theorem lit_bot : Ideal.ofBits .f32 0xFF800000#32 = ⊥ := by simp [Ideal.ofBits, Ideal.ieee]

/-- A bit widened to a word and read as a number: one or zero. -/
theorem sitofp_bit (p : Prop) [Decidable p] :
    (FloatOps.sitofp .f32 (BitVec.setWidth 32 (BitVec.ofBool (decide p))) : Ideal .f32) = ((if p then 1 else 0 : ℕ) : EReal) := by
  by_cases h : p
  · rw [if_pos h, decide_eq_true h]
    change (((BitVec.setWidth 32 (BitVec.ofBool true)).toInt : ℝ) : EReal) = _
    rw [show (BitVec.setWidth 32 (BitVec.ofBool true)).toInt = 1 by decide]
    norm_num
  · rw [if_neg h, decide_eq_false h]
    change (((BitVec.setWidth 32 (BitVec.ofBool false)).toInt : ℝ) : EReal) = _
    rw [show (BitVec.setWidth 32 (BitVec.ofBool false)).toInt = 0 by decide]
    norm_num

/-- A bit read as a number. -/
theorem uitofp_bit (p : Prop) [Decidable p] :
    (FloatOps.uitofp .f32 (BitVec.ofBool (decide p)) : Ideal .f32) = ((if p then 1 else 0 : ℕ) : EReal) := by
  by_cases h : p
  · rw [if_pos h, decide_eq_true h]
    change (((BitVec.ofBool true).toNat : ℝ) : EReal) = _
    rw [show (BitVec.ofBool true).toNat = 1 by decide]
    norm_num
  · rw [if_neg h, decide_eq_false h]
    change (((BitVec.ofBool false).toNat : ℝ) : EReal) = _
    rw [show (BitVec.ofBool false).toNat = 0 by decide]
    norm_num

/-- A choice between one and zero. -/
theorem ite_one_zero (p : Prop) [Decidable p] : (if p then (1 : EReal) else 0) = ((if p then 1 else 0 : ℕ) : EReal) := by
  split <;> simp

/-- Counts compare as numbers do. -/
theorem count_lt (a b : ℕ) : ((a : EReal) < (b : EReal)) ↔ a < b := by
  exact_mod_cast Iff.rfl

/-- Counts are equal as extended reals when they are equal as numbers. -/
theorem count_eq (a b : ℕ) : ((a : EReal) = (b : EReal)) ↔ a = b := by
  exact_mod_cast Iff.rfl

/-- Lane numbers compare as words do. -/
theorem lane_slt : ∀ k e : Fin 16, (BitVec.ofNat 32 k.val).slt (BitVec.ofNat 32 e.val) = decide (k.val < e.val) := by decide

/-- "Greater, or equal and the lane number above `k`", as the body computes the bit. -/
theorem before_bit (p q : Prop) [Decidable p] [Decidable q] (e : Fin 16) (k : ℕ) (hk : k < 16) :
    IntOp.ori (BitVec.ofBool (decide p)) (IntOp.andi (BitVec.ofBool (decide q)) (IntOp.cmpi .sgt (BitVec.ofNat 32 e.val) (BitVec.ofNat 32 k)))
      = BitVec.ofBool (decide (p ∨ (q ∧ k < e.val))) := by
  unfold IntOp.ori IntOp.andi IntOp.cmpi
  simp only [lane_slt ⟨k, hk⟩ e]
  by_cases hp : p <;> by_cases hq : q <;> by_cases hke : k < e <;> simp [hp, hq, hke]

end Cert.MoE

end
-- ==== Proof.Choice.lean ====
/-
  Which lanes a top-k takes, in order theory alone: the rank of a lane (how many lanes come before it, greater first and
  the lower lane first among equals), the stable sort that puts a lane at its rank, and the count of strictly greater
  lanes, which chooses the same lanes whenever it chooses the right number of them.
-/
module

public import Idealize.ShloMosaic.Lib.SortFacts
public import Mathlib.Data.EReal.Operations
public import Mathlib.Algebra.BigOperators.Fin
public import Mathlib.Algebra.Order.BigOperators.Group.Finset
public import Mathlib.Order.Interval.Finset.Fin

@[expose] public section

noncomputable section

namespace Cert.MoE

open Idealize.ShloMosaic

variable {n : ℕ} (l : Fin n → EReal)

/-- Lane `k` comes before lane `e`: its value is greater, or equal with the lower lane number. -/
def Beats (k e : Fin n) : Prop := l e < l k ∨ (l k = l e ∧ k < e)

/-- Which of two lanes comes first is decided classically. -/
instance (k e : Fin n) : Decidable (Beats l k e) := Classical.propDecidable _

/-- How many lanes come before lane `e`, and how many are strictly greater. -/
def rank (e : Fin n) : ℕ := ∑ k : Fin n, if Beats l k e then 1 else 0
/-- How many lanes are strictly greater than lane `e`. -/
def fastRank (e : Fin n) : ℕ := ∑ k : Fin n, if l e < l k then 1 else 0

/-- The sort's comparator: strictly greater comes first. -/
def before (k e : Fin n) : Bool := decide (l e < l k)

/-- The lane the stable sort puts at a place. -/
def lane (j : Fin n) : Fin n := sortedFrom (before l) j

/-! ## The order -/

/-- Of two lanes at most one comes before the other. -/
theorem Beats.asymm {k e : Fin n} (h : Beats l k e) : ¬ Beats l e k := by
  rcases h with h | ⟨h, h'⟩ <;> rintro (g | ⟨g, g'⟩)
  · exact lt_asymm h g
  · exact absurd g h.ne
  · exact absurd h g.ne
  · exact lt_asymm h' g'

/-- No lane comes before itself. -/
theorem Beats.irrefl (k : Fin n) : ¬ Beats l k k := fun h => h.asymm l h

/-- A lane that comes before another is at least as great. -/
theorem Beats.le {k e : Fin n} (h : Beats l k e) : l e ≤ l k := h.elim le_of_lt fun g => g.1.ge

/-- Inserting an earlier lane into a list in the order leaves a list in the order. -/
theorem insert_pairwise (a : Fin n) (t : List (Fin n)) (ha : ∀ b ∈ t, a < b) (ht : t.Pairwise (Beats l)) :
    (insertBefore (before l) a t).Pairwise (Beats l) := by
  induction t with
  | nil => exact List.pairwise_singleton _ _
  | cons b t ih =>
    have hb := List.pairwise_cons.mp ht
    unfold insertBefore
    by_cases hab : before l b a = true
    · rw [if_pos hab]
      refine List.pairwise_cons.mpr ⟨fun y hy => ?_, ih (fun y hy => ha y (List.mem_cons_of_mem _ hy)) hb.2⟩
      rcases List.mem_cons.mp ((perm_insertBefore (before l) a t).mem_iff.mp hy) with rfl | hy
      · exact Or.inl (of_decide_eq_true hab)
      · exact hb.1 y hy
    · rw [if_neg hab]
      have hle : l b ≤ l a := not_lt.mp fun h => hab (decide_eq_true h)
      refine List.pairwise_cons.mpr ⟨fun y hy => ?_, ht⟩
      have hy' : l y ≤ l b := by
        rcases List.mem_cons.mp hy with rfl | hy
        · exact le_rfl
        · exact (hb.1 y hy).le
      rcases lt_or_eq_of_le (hy'.trans hle) with h | h
      · exact Or.inl h
      · exact Or.inr ⟨h.symm, ha y hy⟩

/-- The stable sort leaves the lanes in the order. -/
theorem sort_pairwise (t : List (Fin n)) (ht : t.Pairwise (· < ·)) : (stableSort (before l) t).Pairwise (Beats l) := by
  induction t with
  | nil => exact List.Pairwise.nil
  | cons a t ih =>
    have h := List.pairwise_cons.mp ht
    exact insert_pairwise l a _ (fun b hb => h.1 b ((perm_stableSort (before l) t).mem_iff.mp hb)) (ih h.2)

/-- An earlier place holds a lane that comes before a later place's. -/
theorem lane_beats {i j : Fin n} (hij : i < j) : Beats l (lane l i) (lane l j) := by
  have h := List.pairwise_iff_get.mp (sort_pairwise l (List.finRange n) (List.pairwise_lt_finRange n))
  exact h (i.cast (length_sortPositions n (before l)).symm) (j.cast (length_sortPositions n (before l)).symm) hij

/-- The sorted lanes come one before another in the order of their positions. -/
theorem lane_beats_iff (i j : Fin n) : Beats l (lane l i) (lane l j) ↔ i < j := by
  refine ⟨fun h => ?_, lane_beats l⟩
  rcases lt_trichotomy i j with g | rfl | g
  · exact g
  · exact absurd h (Beats.irrefl l _)
  · exact absurd h ((lane_beats l g).asymm l)

/-- Every lane has one position in the sorted order. -/
theorem lane_bijective : Function.Bijective (lane l) := ⟨sortedFrom_injective _, sortedFrom_surjective _⟩

/-- A sum over the lanes is the sum over the places. -/
theorem sum_lane {M : Type} [AddCommMonoid M] (f : Fin n → M) : ∑ e, f e = ∑ j, f (lane l j) :=
  ((lane_bijective l).sum_comp f).symm

/-- The lane at place `j` has rank `j`. -/
theorem rank_lane (j : Fin n) : rank l (lane l j) = j := by
  unfold rank
  rw [sum_lane l]
  simp only [lane_beats_iff]
  rw [Finset.sum_boole, Finset.filter_gt_eq_Iio, Fin.card_Iio, Nat.cast_id]

/-! ## The first `m` lanes -/

/-- A sum over the lanes of rank below `m` is the sum over the first `m` places. -/
theorem sum_chosen {M : Type} [AddCommMonoid M] {m : ℕ} (hm : m ≤ n) (f : Fin n → M) :
    (∑ e, if rank l e < m then f e else 0) = ∑ j : Fin m, f (lane l (j.castLE hm)) := by
  obtain ⟨d, rfl⟩ := Nat.exists_eq_add_of_le hm
  rw [sum_lane l, Fin.sum_univ_add]
  simp only [rank_lane, Fin.val_castAdd, Fin.val_natAdd]
  rw [Finset.sum_congr rfl (fun (i : Fin m) _ => if_pos i.isLt),
    Finset.sum_eq_zero (s := (Finset.univ : Finset (Fin d))) (fun i _ => if_neg (by omega)), add_zero]
  rfl

/-- Exactly `m` lanes have rank below `m`. -/
theorem card_chosen {m : ℕ} (hm : m ≤ n) : (∑ e, if rank l e < m then 1 else 0) = m := by
  rw [sum_chosen l hm fun _ => 1]
  simp

/-- Fewer lanes are strictly greater than come before. -/
theorem fastRank_le (e : Fin n) : fastRank l e ≤ rank l e := by
  refine Finset.sum_le_sum fun k _ => ?_
  by_cases h : l e < l k
  · rw [if_pos h, if_pos (show Beats l k e from Or.inl h)]
  · rw [if_neg h]
    exact Nat.zero_le _

/-- If exactly `m` lanes have fewer than `m` strictly greater ones, they are the `m` of rank below `m`. -/
theorem fast_iff {m : ℕ} (hm : m ≤ n) (h : (∑ e, if fastRank l e < m then 1 else 0) = m) (e : Fin n) :
    fastRank l e < m ↔ rank l e < m := by
  have hsub : (Finset.univ.filter fun e => rank l e < m) ⊆ Finset.univ.filter fun e => fastRank l e < m := by
    intro e he
    rw [Finset.mem_filter] at he ⊢
    exact ⟨he.1, (fastRank_le l e).trans_lt he.2⟩
  have hc := card_chosen l hm
  rw [Finset.sum_boole, Nat.cast_id] at h hc
  have := Finset.eq_of_subset_of_card_le hsub (by rw [h, hc])
  have he := Finset.ext_iff.mp this e
  simpa using he.symm

/-- The first place holds a greatest value. -/
theorem le_lane_first (hn : 0 < n) (e : Fin n) : l e ≤ l (lane l ⟨0, hn⟩) := by
  obtain ⟨j, rfl⟩ := (lane_bijective l).2 e
  rcases Nat.eq_zero_or_pos j.val with h | h
  · exact le_of_eq (congrArg (fun i => l (lane l i)) (Fin.ext h))
  · exact (lane_beats l (i := ⟨0, hn⟩) (j := j) h).le

/-- The maximum over the first `m` places is the maximum over all the lanes. -/
theorem max_chosen {m : ℕ} (h0 : 0 < m) (hm : m ≤ n) :
    (Finset.univ.fold max ⊥ fun j : Fin m => l (lane l (j.castLE hm))) = Finset.univ.fold max ⊥ l := by
  refine le_antisymm ?_ ?_
  · rw [Finset.fold_max_le]
    exact ⟨bot_le, fun j _ => (Finset.le_fold_max _).mpr (Or.inr ⟨_, Finset.mem_univ _, le_rfl⟩)⟩
  · rw [Finset.fold_max_le]
    exact ⟨bot_le, fun e _ => (Finset.le_fold_max _).mpr (Or.inr ⟨⟨0, h0⟩, Finset.mem_univ _, le_lane_first l (h0.trans_le hm) e⟩)⟩

end Cert.MoE

end
-- ==== Proof.BlockVal.lean ====
/-
  What the names of Block.lean are at an index, over the extended reals: the logits, the two masks by rank, the branch's
  verdict, the mask it yields (the lanes of rank below twelve in either arm), the gates and the load.
-/
module

public import proofs.«01_k».proof.Proof.Block
public import proofs.«01_k».proof.Proof.Bits
public import proofs.«01_k».proof.Proof.Choice

@[expose] public section

set_option maxRecDepth 16384

noncomputable section

namespace Cert.MoE

open Cert.KernelIdeal Cert.KernelIdeal.Gen
open Idealize.ShloMosaic Idealize.ShloMosaic.TcCoe

/-- The rank as the body sums it, lane by lane. -/
theorem rank_sum (l : Fin 16 → EReal) (e : Fin 16) :
    rank l e = ∑ k : Fin 16, if (l e < l k ∨ (l k = l e ∧ k.val < e.val)) then 1 else 0 :=
  Finset.sum_congr rfl fun _ _ => if_congr Iff.rfl rfl rfl

/-- Sixteen numbers summed from the left, and in pairs, as the two arms sum them. -/
theorem sum16 (f : Fin 16 → ℕ) : f 0 + f 1 + f 2 + f 3 + f 4 + f 5 + f 6 + f 7 + f 8 + f 9 + f 10 + f 11 + f 12 + f 13 + f 14 + f 15
    = ∑ k, f k := by
  simp only [Fin.sum_univ_succ, Fin.sum_univ_zero, ← Nat.add_assoc]
  rfl
/-- Sixteen numbers summed in pairs of pairs are their sum. -/
theorem sum16_tree (f : Fin 16 → ℕ) :
    ((f 0 + f 1) + (f 2 + f 3) + ((f 4 + f 5) + (f 6 + f 7))) + (((f 8 + f 9) + (f 10 + f 11)) + ((f 12 + f 13) + (f 14 + f 15)))
    = ∑ k, f k := by
  rw [← sum16]
  omega

/-- Row `r` of a block of logits. -/
def row (v : FVec Ideal S256x16 .f32) (r : Fin 256) : Fin 16 → EReal := fun e => v (ix2 r e)

/-- A logit of the block is the token times the gating column. -/
theorem lgt_apply (x : Vec Ideal S256x1024 .f32) (wg : Vec Ideal S1024x16 .bf16) (r : Fin 256) (e : Fin 16) :
    lgt x wg (ix2 r e) = ∑ d : Fin 1024, x (ix2 r d) * wg (ix2 d e) := by
  unfold lgt
  pointwise [k0_pay13, k0_pay12]

/-- The gate of lane `e` in a row of logits, as the kernel forms it: the masked exponential over the masked sum. -/
def rowGate (l : Fin 16 → EReal) (e : Fin 16) : EReal :=
  Ideal.div (((if rank l e < 12 then 1 else 0 : ℕ) : EReal) * Ideal.exp (l e - Finset.univ.fold max ⊥ l))
    (∑ k : Fin 16, ((if rank l k < 12 then 1 else 0 : ℕ) : EReal) * Ideal.exp (l k - Finset.univ.fold max ⊥ l))

/-- The exact mask is one on the lanes of rank below twelve. -/
theorem exactMask_apply (v4 : FVec Ideal S256x16 .f32) (r : Fin 256) (e : Fin 16) :
    exactMask v4 (ix2 r e) = ((if rank (row v4 r) e < 12 then 1 else 0 : ℕ) : EReal) := by
  unfold exactMask
  pointwise [k0_pay2, k0_pay3, k0_pay4, k0_pay5, k0_pay6, k0_pay7, k0_pay8, k0_pay9, k0_pay10, k0_pay11, k0_pay31]
  have hb : ∀ k : ℕ, k < 16 → ∀ p q : Prop, ∀ [Decidable p] [Decidable q],
      IntOp.ori (BitVec.ofBool (decide p)) (IntOp.andi (BitVec.ofBool (decide q)) (IntOp.cmpi .sgt (BitVec.ofNat 32 e.val) (BitVec.ofNat 32 k)))
        = BitVec.ofBool (decide (p ∨ (q ∧ k < e.val))) := fun k hk p q _ _ => before_bit p q e k hk
  rw [hb 0 (by decide), hb 1 (by decide), hb 2 (by decide), hb 3 (by decide), hb 4 (by decide), hb 5 (by decide),
    hb 6 (by decide), hb 7 (by decide), hb 8 (by decide), hb 9 (by decide), hb 10 (by decide), hb 11 (by decide),
    hb 12 (by decide), hb 13 (by decide), hb 14 (by decide), hb 15 (by decide)]
  simp only [sitofp_bit, lit_twelve, ← Nat.cast_add, count_lt]
  refine congrArg (fun N : ℕ => ((if N < 12 then 1 else 0 : ℕ) : EReal)) ?_
  rw [rank_sum, ← sum16]
  rfl

/-- The fast mask keeps a lane that fewer than twelve lanes exceed strictly. -/
theorem fastMask_apply (x : Vec Ideal S256x1024 .f32) (wg : Vec Ideal S1024x16 .bf16) (r : Fin 256) (e : Fin 16) :
    fastMask x wg (ix2 r e) = ((if fastRank (row (lgt x wg) r) e < 12 then 1 else 0 : ℕ) : EReal) := by
  unfold fastMask
  pointwise [k0_pay14, k0_pay15, k0_pay16, k0_pay17, k0_pay18, k0_pay19, k0_pay20, k0_pay21, k0_pay22, k0_pay23, k0_pay24, k0_pay25, k0_pay26, k0_pay27, k0_pay28, k0_pay29]
  simp only [ite_one_zero, sitofp_bit, lit_twelve, ← Nat.cast_add, count_lt]
  refine congrArg (fun N : ℕ => ((if N < 12 then 1 else 0 : ℕ) : EReal)) ?_
  unfold fastRank
  rw [← sum16_tree]
  rfl

/-- The sum over the reduced axis of the fast mask counts its lanes. -/
theorem fast_count (x : Vec Ideal S256x1024 .f32) (wg : Vec Ideal S1024x16 .bf16) (r : Fin 256) :
    (∑ e : Fin 16, fastMask x wg (ix2 r e)) = ((∑ e : Fin 16, if fastRank (row (lgt x wg) r) e < 12 then 1 else 0 : ℕ) : EReal) := by
  rw [Finset.sum_congr rfl fun e _ => fastMask_apply x wg r e, Nat.cast_sum]

/-- The verdict on a mask: one when every row of it sums to twelve, else zero. -/
def verdict (m : FVec Ideal S256x16 .f32) : Ideal .f32 :=
  extractAt ![0, 0] (shapeCast S1x1 (multiReduction .minimumf [1] S1 (shapeCast S1x256 (select
    (cmpf .oeq (multiReduction .add [1] S256 m 0x00000000#32 reduces_S256x16_S256 (.inl rfl) rfl) (broadcast S256 (Scalar.ofBits .f32 0x41400000#32)))
    (broadcast S256 (Scalar.ofBits .f32 0x3F800000#32)) (broadcast S256 (Scalar.ofBits .f32 0x00000000#32))) shapeCasts_S256_S1x256)
    0x7F800000#32 reduces_S1x256_S1 (.inl rfl) rfl) shapeCasts_S1_S1x1) inpos_S1x1_p0_0

/-- The branch's condition is the verdict on the fast mask. -/
theorem fastOk_eq (x : Vec Ideal S256x1024 .f32) (wg : Vec Ideal S1024x16 .bf16) : fastOk x wg = verdict (fastMask x wg) := rfl

/-- The verdict is at most one on every row's test, and positive only when every row keeps twelve lanes. -/
theorem fastOk_pos (x : Vec Ideal S256x1024 .f32) (wg : Vec Ideal S1024x16 .bf16) (h : 0 < fastOk x wg) (r : Fin 256) :
    (∑ e : Fin 16, if fastRank (row (lgt x wg) r) e < 12 then 1 else 0) = 12 := by
  have hv : fastOk x wg = Finset.univ.fold min ⊤ fun r : Fin 256 =>
      if (∑ e : Fin 16, fastMask x wg (ix2 r e)) = ((12 : ℕ) : EReal) then (1 : EReal) else 0 := by
    rw [fastOk_eq]
    unfold verdict
    pointwise []
    rw [lit_twelve, lit_top]
  rw [hv, Finset.lt_fold_min] at h
  by_contra hr
  have := h.2 r (Finset.mem_univ r)
  rw [fast_count, if_neg (fun g => hr ((count_eq _ _).mp g))] at this
  exact lt_irrefl _ this

/-- The branch is taken to the fast arm only when the verdict is positive. -/
theorem okBit_pos (x : Vec Ideal S256x1024 .f32) (wg : Vec Ideal S1024x16 .bf16) (h : okBit x wg = 1#1) : 0 < fastOk x wg := by
  by_contra hn
  have : okBit x wg = 0#1 := by
    unfold okBit
    pointwise []
    rw [decide_eq_false hn]
    decide
  rw [this] at h
  exact absurd h (by decide)

/-- THE MASK: whichever arm the branch takes, one on the lanes of rank below twelve and zero elsewhere. -/
theorem mask_apply (x : Vec Ideal S256x1024 .f32) (wg : Vec Ideal S1024x16 .bf16) (r : Fin 256) (e : Fin 16) :
    mask x wg (ix2 r e) = ((if rank (row (lgt x wg) r) e < 12 then 1 else 0 : ℕ) : EReal) := by
  unfold mask
  by_cases h : okBit x wg = 1#1
  · rw [if_pos h, fastMask_apply]
    have := fast_iff (row (lgt x wg) r) (m := 12) (by decide) (fastOk_pos x wg (okBit_pos x wg h) r) e
    rw [if_congr this rfl rfl]
  · rw [if_neg h, exactMask_apply]

/-- The gates of a block at an index. -/
theorem gates_apply (x : Vec Ideal S256x1024 .f32) (wg : Vec Ideal S1024x16 .bf16) (r : Fin 256) (e : Fin 16) :
    gates x wg (ix2 r e) = rowGate (row (lgt x wg) r) e := by
  unfold gates
  pointwise [k0_pay32]
  simp only [lit_bot, mask_apply]
  rfl

/-- The load of a block at an index: how many of its rows give the lane a positive gate. -/
theorem load0_apply (x : Vec Ideal S256x1024 .f32) (wg : Vec Ideal S1024x16 .bf16) (e : Fin 16) :
    load0 x wg (ix2 0 e) = ∑ r : Fin 256, ((if 0 < gates x wg (ix2 r e) then 1 else 0 : ℕ) : EReal) := by
  unfold load0
  pointwise [k0_pay33]
  simp only [sitofp_bit]
  rfl

/-- … and the load after a later block. -/
theorem loadS_apply (x : Vec Ideal S256x1024 .f32) (wg : Vec Ideal S1024x16 .bf16) (acc : Vec Ideal S1x16 .f32) (e : Fin 16) :
    loadS x wg acc (ix2 0 e) = acc (ix2 0 e) + ∑ r : Fin 256, ((if 0 < gates x wg (ix2 r e) then 1 else 0 : ℕ) : EReal) := by
  rw [← load0_apply]
  unfold loadS load0
  pointwise [k0_pay34]

end Cert.MoE
end
-- ==== Proof.OutVal.lean ====
/-
  The output block at an index, over the extended reals: the four groups of four experts summed as one sum over the
  sixteen experts and their hidden units, then the residual and the output layer.
-/
module

public import proofs.«01_k».proof.Proof.BlockVal
public import Idealize.ShloMosaic.Lib.Pipeline.ValueKit

@[expose] public section

set_option maxRecDepth 16384

noncomputable section

namespace Cert.MoE

open Cert.KernelIdeal Cert.KernelIdeal.Gen
open Idealize.ShloMosaic Idealize.ShloMosaic.TcCoe

/-- Four column blocks of a hidden layer, each scaled by its gate's column, side by side. -/
def scaled (h : FVec Ideal S256x1024 .f32) (c0 c1 c2 c3 : FVec Ideal S256x1 .f32) : FVec Ideal S256x1024 .bf16 :=
  concatenate S256x1024 1
    [⟨S256x256, truncf .bf16 (mulf (extractStridedSlice S256x256 ![0, 0] h slices_S256x1024_o0_0_S256x256) (broadcastTo S256x256 c0 broadcasts_S256x1_S256x256)) bitsLt_bf16_f32⟩,
     ⟨S256x256, truncf .bf16 (mulf (extractStridedSlice S256x256 ![0, 256] h slices_S256x1024_o0_256_S256x256) (broadcastTo S256x256 c1 broadcasts_S256x1_S256x256)) bitsLt_bf16_f32⟩,
     ⟨S256x256, truncf .bf16 (mulf (extractStridedSlice S256x256 ![0, 512] h slices_S256x1024_o0_512_S256x256) (broadcastTo S256x256 c2 broadcasts_S256x1_S256x256)) bitsLt_bf16_f32⟩,
     ⟨S256x256, truncf .bf16 (mulf (extractStridedSlice S256x256 ![0, 768] h slices_S256x1024_o0_768_S256x256) (broadcastTo S256x256 c3 broadcasts_S256x1_S256x256)) bitsLt_bf16_f32⟩]
    concatenates_S256x256_S256x256_S256x256_S256x256_S256x1024_d1

/-- At column `k` the scale is the column of block `k / 256`. -/
theorem scaled_apply (h : FVec Ideal S256x1024 .f32) (c0 c1 c2 c3 : FVec Ideal S256x1 .f32) (r : Fin 256) (k : Fin 1024) :
    scaled h c0 c1 c2 c3 (ix2 r k)
      = h (ix2 r k) * (![c0 (ix2 r 0), c1 (ix2 r 0), c2 (ix2 r 0), c3 (ix2 r 0)] ⟨k.val / 256, by omega⟩ : EReal) := by
  unfold scaled
  pointwise []
  have hk := k.isLt
  have block (i : Fin 1024) (j : Fin 4) (c : EReal) (hi : i.val = k.val) (hj : k.val / 256 = j.val)
      (hc : c = (![c0 (ix2 r 0), c1 (ix2 r 0), c2 (ix2 r 0), c3 (ix2 r 0)] j : EReal)) :
      h (ix2 r i) * c
        = h (ix2 r k) * (![c0 (ix2 r 0), c1 (ix2 r 0), c2 (ix2 r 0), c3 (ix2 r 0)] ⟨k.val / 256, by omega⟩ : EReal) := by
    rw [Fin.ext hi, hc, show (⟨k.val / 256, by omega⟩ : Fin 4) = j from Fin.ext hj]
  split_ifs <;> first
    | (refine block _ 0 _ ?_ ?_ rfl <;> simp <;> omega; done)
    | (refine block _ 1 _ ?_ ?_ rfl <;> simp <;> omega; done)
    | (refine block _ 2 _ ?_ ?_ rfl <;> simp <;> omega; done)
    | (refine block _ 3 _ ?_ ?_ rfl <;> simp <;> omega; done)

/-- One group's contribution: its hidden block, scaled, times its rows of the second layer. -/
def groupOf (x : FVec Ideal S256x1024 .f32) (c0 c1 c2 c3 : FVec Ideal S256x1 .f32) (a b : FVec Ideal S1024x1024 .bf16) :
    FVec Ideal S256x1024 .f32 :=
  matmul dot_S256x1024_S1024x1024_S256x1024_1_0_0_1_n_n none (scaled (k0_pay35 (k0_pay12 x) a) c0 c1 c2 c3)
    (shapeCast S1024x1024 b shapeCasts_S1024x1024_S1024x1024) (constant S256x1024 .f32 0x00000000#32)

/-- The output block from the four groups. -/
def finish (x : FVec Ideal S256x1024 .f32) (g0 g1 g2 g3 : FVec Ideal S256x1024 .f32) (wo : FVec Ideal S1024x1000 .bf16) :
    FVec Ideal S256x1000 .f32 :=
  matmul dot_S256x1024_S1024x1000_S256x1000_1_0_0_1_n_n none
    (truncf .bf16 (addf (maximumf (addf (addf (addf g0 g1) g2) g3) (broadcast S256x1024 (Scalar.ofBits .f32 0x00000000#32))) x) bitsLt_bf16_f32)
    (shapeCast S1024x1000 wo shapeCasts_S1024x1000_S1024x1000) (constant S256x1000 .f32 0x00000000#32)

/-- The output block at given gates. -/
def outWith (x : FVec Ideal S256x1024 .f32) (G : FVec Ideal S256x16 .f32) (a0 a1 a2 a3 b0 b1 b2 b3 : FVec Ideal S1024x1024 .bf16)
    (wo : FVec Ideal S1024x1000 .bf16) : FVec Ideal S256x1000 .f32 :=
      finish x
        (groupOf x (extractStridedSlice S256x1 ![0, 0] G slices_S256x16_o0_0_S256x1)
          (extractStridedSlice S256x1 ![0, 1] G slices_S256x16_o0_1_S256x1)
          (extractStridedSlice S256x1 ![0, 2] G slices_S256x16_o0_2_S256x1)
          (extractStridedSlice S256x1 ![0, 3] G slices_S256x16_o0_3_S256x1) a0 b0)
        (groupOf x (extractStridedSlice S256x1 ![0, 4] G slices_S256x16_o0_4_S256x1)
          (extractStridedSlice S256x1 ![0, 5] G slices_S256x16_o0_5_S256x1)
          (extractStridedSlice S256x1 ![0, 6] G slices_S256x16_o0_6_S256x1)
          (extractStridedSlice S256x1 ![0, 7] G slices_S256x16_o0_7_S256x1) a1 b1)
        (groupOf x (extractStridedSlice S256x1 ![0, 8] G slices_S256x16_o0_8_S256x1)
          (extractStridedSlice S256x1 ![0, 9] G slices_S256x16_o0_9_S256x1)
          (extractStridedSlice S256x1 ![0, 10] G slices_S256x16_o0_10_S256x1)
          (extractStridedSlice S256x1 ![0, 11] G slices_S256x16_o0_11_S256x1) a2 b2)
        (groupOf x (extractStridedSlice S256x1 ![0, 12] G slices_S256x16_o0_12_S256x1)
          (extractStridedSlice S256x1 ![0, 13] G slices_S256x16_o0_13_S256x1)
          (extractStridedSlice S256x1 ![0, 14] G slices_S256x16_o0_14_S256x1)
          (extractStridedSlice S256x1 ![0, 15] G slices_S256x16_o0_15_S256x1) a3 b3) wo

/-- The output block is the one at its gates. -/
theorem outOf_eq (x : FVec Ideal S256x1024 .f32) (v4 m : FVec Ideal S256x16 .f32) (a0 a1 a2 a3 b0 b1 b2 b3 : FVec Ideal S1024x1024 .bf16)
    (wo : FVec Ideal S1024x1000 .bf16) :
    outOf x v4 m a0 a1 a2 a3 b0 b1 b2 b3 wo = outWith x (k0_pay32 v4 m) a0 a1 a2 a3 b0 b1 b2 b3 wo := rfl

/-- A group's product at an index: hidden units after the rectifier, each times its expert's gate, against the second layer. -/
theorem groupOf_apply (x : FVec Ideal S256x1024 .f32) (c0 c1 c2 c3 : FVec Ideal S256x1 .f32) (a b : FVec Ideal S1024x1024 .bf16)
    (r : Fin 256) (d : Fin 1024) :
    groupOf x c0 c1 c2 c3 a b (ix2 r d) = ∑ k : Fin 1024, (max (∑ i : Fin 1024, x (ix2 r i) * a (ix2 i k)) 0
      * (![c0 (ix2 r 0), c1 (ix2 r 0), c2 (ix2 r 0), c3 (ix2 r 0)] ⟨k.val / 256, by omega⟩ : EReal)) * b (ix2 k d) := by
  unfold groupOf
  pointwise []
  refine Finset.sum_congr rfl fun k _ => ?_
  rw [scaled_apply]
  pointwise [k0_pay35, k0_pay12]

/-- The last step at an index: the four groups summed, rectified, added to the token and multiplied by the classifier. -/
theorem finish_apply (x : FVec Ideal S256x1024 .f32) (g0 g1 g2 g3 : FVec Ideal S256x1024 .f32) (wo : FVec Ideal S1024x1000 .bf16)
    (r : Fin 256) (o : Fin 1000) :
    finish x g0 g1 g2 g3 wo (ix2 r o)
      = ∑ d : Fin 1024, (max (g0 (ix2 r d) + g1 (ix2 r d) + g2 (ix2 r d) + g3 (ix2 r d)) 0 + x (ix2 r d)) * wo (ix2 d o) := by
  unfold finish
  pointwise []

/-- The four groups' sums as one sum over the experts and their units. -/
theorem sum_groups (T : ℕ → EReal) :
    (∑ k : Fin 1024, T k.val) + (∑ k : Fin 1024, T (1024 + k.val)) + (∑ k : Fin 1024, T (2048 + k.val)) + (∑ k : Fin 1024, T (3072 + k.val))
      = ∑ e : Fin 16, ∑ h : Fin 256, T (e.val * 256 + h.val) := by
  rw [Fin.sum_univ_univ_mul_add 16 256 T]
  have := Fin.sum_univ_univ_mul_add 4 1024 T
  rw [Fin.sum_univ_four] at this
  simpa using this

/-- Term `q` of the sum over all hidden units, at row `r` and column `d`. -/
def term (x : FVec Ideal S256x1024 .f32) (G : Fin 16 → EReal) (w1 : FVec Ideal S1024x4096 .bf16) (w2 : FVec Ideal S4096x1024 .bf16)
    (r : Fin 256) (d : Fin 1024) (q : ℕ) : EReal :=
  if h : q < 4096 then
    (max (∑ i : Fin 1024, x (ix2 r i) * w1 (ix2 i ⟨q, h⟩)) 0 * G ⟨q / 256, by omega⟩) * w2 (ix2 ⟨q, h⟩ d)
  else 0

/-- Group `g` sums the terms `1024 g … 1024 g + 1023`. -/
theorem group_terms (x : FVec Ideal S256x1024 .f32) (G : Fin 16 → EReal) (w1 : FVec Ideal S1024x4096 .bf16)
    (w2 : FVec Ideal S4096x1024 .bf16) (r : Fin 256) (d : Fin 1024) (g : Fin 4) (c0 c1 c2 c3 : FVec Ideal S256x1 .f32)
    (a b : FVec Ideal S1024x1024 .bf16)
    (ha : ∀ i k : Fin 1024, a (ix2 i k) = w1 (ix2 i ⟨1024 * g.val + k.val, by omega⟩))
    (hb : ∀ k : Fin 1024, b (ix2 k d) = w2 (ix2 ⟨1024 * g.val + k.val, by omega⟩ d))
    (hc : ∀ j : Fin 4, (![c0 (ix2 r 0), c1 (ix2 r 0), c2 (ix2 r 0), c3 (ix2 r 0)] j : EReal) = G ⟨4 * g.val + j.val, by omega⟩) :
    groupOf x c0 c1 c2 c3 a b (ix2 r d) = ∑ k : Fin 1024, term x G w1 w2 r d (1024 * g.val + k.val) := by
  rw [groupOf_apply]
  refine Finset.sum_congr rfl fun k _ => ?_
  rw [term, dif_pos (show 1024 * g.val + k.val < 4096 by omega), hb, hc]
  simp only [ha]
  congr 3
  exact Fin.ext (show 4 * g.val + k.val / 256 = (1024 * g.val + k.val) / 256 by omega)

/-- The column blocks of the first layer, and the row blocks of the second, read at an index. -/
theorem cols_apply (w : FVec Ideal S1024x4096 .bf16) (i k : Fin 1024) :
    w (rc0.idx (ix2 i k)) = w (ix2 i ⟨1024 * 0 + k.val, by omega⟩) ∧ w (rc1.idx (ix2 i k)) = w (ix2 i ⟨1024 * 1 + k.val, by omega⟩)
      ∧ w (rc2.idx (ix2 i k)) = w (ix2 i ⟨1024 * 2 + k.val, by omega⟩) ∧ w (rc3.idx (ix2 i k)) = w (ix2 i ⟨1024 * 3 + k.val, by omega⟩) := by
  refine ⟨?_, ?_, ?_, ?_⟩ <;> refine congrArg w (funext fun a => Fin.ext ?_) <;> fin_cases a
  all_goals simp
/-- The four row blocks of the second layer, read from the whole array. -/
theorem rows_apply (w : FVec Ideal S4096x1024 .bf16) (k d : Fin 1024) :
    w (rr0.idx (ix2 k d)) = w (ix2 ⟨1024 * 0 + k.val, by omega⟩ d) ∧ w (rr1.idx (ix2 k d)) = w (ix2 ⟨1024 * 1 + k.val, by omega⟩ d)
      ∧ w (rr2.idx (ix2 k d)) = w (ix2 ⟨1024 * 2 + k.val, by omega⟩ d) ∧ w (rr3.idx (ix2 k d)) = w (ix2 ⟨1024 * 3 + k.val, by omega⟩ d) := by
  refine ⟨?_, ?_, ?_, ?_⟩ <;> refine congrArg w (funext fun a => Fin.ext ?_) <;> fin_cases a
  all_goals simp

/-- The output block at given gates, at row `r`, column `o`. -/
theorem outWith_apply (x : FVec Ideal S256x1024 .f32) (G : FVec Ideal S256x16 .f32) (w1 : FVec Ideal S1024x4096 .bf16)
    (w2 : FVec Ideal S4096x1024 .bf16) (wo : FVec Ideal S1024x1000 .bf16) (r : Fin 256) (o : Fin 1000) :
    outWith x G (fun j => w1 (rc0.idx j)) (fun j => w1 (rc1.idx j)) (fun j => w1 (rc2.idx j)) (fun j => w1 (rc3.idx j))
        (fun j => w2 (rr0.idx j)) (fun j => w2 (rr1.idx j)) (fun j => w2 (rr2.idx j)) (fun j => w2 (rr3.idx j)) wo (ix2 r o)
      = ∑ d : Fin 1024, (max (∑ e : Fin 16, ∑ h : Fin 256,
          (max (∑ i : Fin 1024, x (ix2 r i) * w1 (ix2 i ⟨e.val * 256 + h.val, by omega⟩)) 0 * G (ix2 r e))
            * w2 (ix2 ⟨e.val * 256 + h.val, by omega⟩ d)) 0 + x (ix2 r d)) * wo (ix2 d o) := by
  unfold outWith
  rw [finish_apply]
  refine Finset.sum_congr rfl fun d _ => ?_
  have terms := sum_groups (term x (fun e => G (ix2 r e)) w1 w2 r d)
  rw [group_terms x (fun e => G (ix2 r e)) w1 w2 r d 0 _ _ _ _ _ _ (fun i k => (cols_apply w1 i k).1) (fun k => (rows_apply w2 k d).1)
      (fun j => by fin_cases j <;> (pointwise []; try rfl)),
    group_terms x (fun e => G (ix2 r e)) w1 w2 r d 1 _ _ _ _ _ _ (fun i k => (cols_apply w1 i k).2.1) (fun k => (rows_apply w2 k d).2.1)
      (fun j => by fin_cases j <;> (pointwise []; try rfl)),
    group_terms x (fun e => G (ix2 r e)) w1 w2 r d 2 _ _ _ _ _ _ (fun i k => (cols_apply w1 i k).2.2.1) (fun k => (rows_apply w2 k d).2.2.1)
      (fun j => by fin_cases j <;> (pointwise []; try rfl)),
    group_terms x (fun e => G (ix2 r e)) w1 w2 r d 3 _ _ _ _ _ _ (fun i k => (cols_apply w1 i k).2.2.2) (fun k => (rows_apply w2 k d).2.2.2)
      (fun j => by fin_cases j <;> (pointwise []; try rfl))]
  have joined : ∀ a b : EReal, a = b → (max a 0 + x (ix2 r d)) * wo (ix2 d o) = (max b 0 + x (ix2 r d)) * wo (ix2 d o) :=
    fun a b h => by rw [h]
  refine joined _ _ (Eq.trans ?_ (terms.trans ?_))
  · simp
  · refine Finset.sum_congr rfl fun e _ => Finset.sum_congr rfl fun h _ => ?_
    rw [term, dif_pos (show e.val * 256 + h.val < 4096 by omega),
      show (⟨(e.val * 256 + h.val) / 256, by omega⟩ : Fin 16) = e from Fin.ext (show (e.val * 256 + h.val) / 256 = e.val by omega)]

/-- The output block at row `r`, column `o`. -/
theorem outB_apply (x : FVec Ideal S256x1024 .f32) (wg : FVec Ideal S1024x16 .bf16) (w1 : FVec Ideal S1024x4096 .bf16)
    (w2 : FVec Ideal S4096x1024 .bf16) (wo : FVec Ideal S1024x1000 .bf16) (r : Fin 256) (o : Fin 1000) :
    outB x wg w1 w2 wo (ix2 r o)
      = ∑ d : Fin 1024, (max (∑ e : Fin 16, ∑ h : Fin 256,
          (max (∑ i : Fin 1024, x (ix2 r i) * w1 (ix2 i ⟨e.val * 256 + h.val, by omega⟩)) 0 * gates (F := Ideal) x wg (ix2 r e))
            * w2 (ix2 ⟨e.val * 256 + h.val, by omega⟩ d)) 0 + x (ix2 r d)) * wo (ix2 d o) := by
  unfold outB
  rw [outOf_eq]
  exact outWith_apply x (gates (F := Ideal) x wg) w1 w2 wo r o

end Cert.MoE

end
-- ==== Proof.RefTop.lean ====
/-
  The reference's choice at an index: the twelve greatest logits of a row, and the lanes they stand at, are the row at the
  first twelve lanes of its sorted order, and those lanes.
-/
module

public import proofs.«01_k».proof.Proof.RefRun
public import proofs.«01_k».proof.Proof.Choice
public import Idealize.ShloMosaic.Lib.Pointwise
public import Idealize.ShloMosaic.Lib.Routing.OpsSet
public import Idealize.ShloMosaic.Lib.Routing.OpsPair

@[expose] public section

set_option maxRecDepth 16384

noncomputable section

namespace Cert.MoE.Ref

open Cert.ReferenceIdeal Cert.ReferenceIdeal.Gen
open Idealize.ShloMosaic Idealize.ShloMosaic.TcCoe

/-- The lanes of row `n`. -/
def row (l : FVec Ideal S2048x16 .f32) (n : Fin 2048) : Fin 16 → EReal := fun e => l (ix2 n e)

/-- A row's index moved along the lanes. -/
theorem along_lane (n : Fin 2048) (j k : Fin 16) : (ix2 n j : S2048x16.Idx).along 1 k = ix2 n k := by
  funext a
  match a with
  | ⟨0, _⟩ => rfl
  | ⟨1, _⟩ => rfl

/-- The sorted order of a row, by the library's comparison of extended reals. -/
theorem sorted_lane (l : FVec Ideal S2048x16 .f32) (n : Fin 2048) (i j : Fin 16) :
    sortedFrom (fun k k' : Fin 16 => FloatOps.cmpfTotal (F := Ideal) .gt (l ((ix2 n i : S2048x16.Idx).along 1 k)) (l ((ix2 n i : S2048x16.Idx).along 1 k')) == 1#1) j = lane (row l n) j := by
  unfold lane
  congr 1
  funext k k'
  rw [along_lane, along_lane]
  unfold before row
  show (BitVec.ofBool (decide (l (ix2 n k') < l (ix2 n k))) == 1#1) = _
  by_cases h : l (ix2 n k') < l (ix2 n k) <;> simp [h]

/-- A row's sort, its values and what is carried along. -/
theorem sort_vals (l : FVec Ideal S2048x16 .f32) (y : IVec S2048x16 32) (n : Fin 2048) (j : Fin 16) :
    (Host.sort2 S2048x16 1 (fun a b => FloatOps.cmpfTotal (F := Ideal) .gt a.1 b.1) l y).1 (ix2 n j) = row l n (lane (row l n) j) :=
  (congrArg l (along_lane n j _)).trans (congrArg (row l n) (sorted_lane l n j j))
/-- What a row's sort carries along is read at the sorted lane. -/
theorem sort_along (l : FVec Ideal S2048x16 .f32) (y : IVec S2048x16 32) (n : Fin 2048) (j : Fin 16) :
    (Host.sort2 S2048x16 1 (fun a b => FloatOps.cmpfTotal (F := Ideal) .gt a.1 b.1) l y).2 (ix2 n j) = y (ix2 n (lane (row l n) j)) :=
  (congrArg y (along_lane n j _)).trans (congrArg (fun k => y (ix2 n k)) (sorted_lane l n j j))

/-- The chosen values. -/
theorem topVals_apply (l : FVec Ideal S2048x16 .f32) (n : Fin 2048) (j : Fin 12) :
    topVals l (ix2 n j) = row l n (lane (row l n) (j.castLE (by decide))) := by
  unfold topVals Host.topK
  pointwise []
  exact sort_vals l _ n (j.castLE (by decide))

/-- The chosen lanes. -/
theorem topIdx_apply (l : FVec Ideal S2048x16 .f32) (n : Fin 2048) (j : Fin 12) :
    topIdx l (ix2 n j) = BitVec.ofNat 32 (lane (row l n) (j.castLE (by decide))).val := by
  unfold topIdx Host.topK
  pointwise []
  exact sort_along l _ n (j.castLE (by decide))

end Cert.MoE.Ref

end
-- ==== Proof.RefVal.lean ====
/-
  The reference's stretches at an index, over the extended reals: the logits, the softmax over the chosen lanes, the gates
  it writes, the load, the experts' hidden layer, their mix, and the output layer.
-/
module

public import proofs.«01_k».proof.Proof.RefTop
public import proofs.«01_k».proof.Proof.Bits

@[expose] public section

set_option maxRecDepth 16384

noncomputable section

namespace Cert.MoE.Ref

open Cert.ReferenceIdeal Cert.ReferenceIdeal.Gen
open Idealize.ShloMosaic Idealize.ShloMosaic.TcCoe

/-- The logit of token `n` for expert `e`. -/
theorem logits_apply (x : FVec Ideal S2048x1024 .f32) (g : FVec Ideal S1024x16 .f32) (n : Fin 2048) (e : Fin 16) :
    logits x g (ix2 n e) = ∑ d : Fin 1024, x (ix2 n d) * g (ix2 d e) := by
  pointwise [logits]

/-- The softmax over the chosen lanes of a row, at place `j`. -/
def soft (l : Fin 16 → EReal) (j : Fin 12) : EReal :=
  Ideal.div (Ideal.exp (l (lane l (j.castLE (by decide))) - Finset.univ.fold max ⊥ l))
    (∑ i : Fin 12, Ideal.exp (l (lane l (i.castLE (by decide))) - Finset.univ.fold max ⊥ l))

/-- The softmax of the chosen logits. -/
theorem softmax_apply (l : FVec Ideal S2048x16 .f32) (n : Fin 2048) (j : Fin 12) :
    softmax (topVals l) (ix2 n j) = soft (row l n) j := by
  pointwise [softmax, topExp, topMax]
  simp only [lit_bot, topVals_apply, max_chosen (row l n) (m := 12) (by decide) (by decide), bot_le, max_eq_right]
  rfl

/-- A word that is not negative is not wrapped. -/
theorem unwrapped (n a : ℕ) (h : n < 2 ^ 31) :
    Scalar.select (IntOp.cmpi .slt (BitVec.ofNat 32 n) 0#32) (IntOp.addi (BitVec.ofNat 32 n) (BitVec.ofNat 32 a)) (BitVec.ofNat 32 n)
      = BitVec.ofNat 32 n :=
  Routing.wrap_of_lt _ _ (by rw [BitVec.toNat_ofNat]; omega)

/-- The row a gate is written at. -/
theorem places_row (ix : IVec S2048x12 32) (n : Fin 2048) (j : Fin 12) :
    places (F := Ideal) ix (ix3 n j 0) = BitVec.ofNat 32 n.val := by
  pointwise [places, pairUp, rowIdx, rowNos]
  exact unwrapped n.val 2048 (by omega)

/-- The expert a gate is written at. -/
theorem places_lane (l : FVec Ideal S2048x16 .f32) (n : Fin 2048) (j : Fin 12) :
    places (F := Ideal) (topIdx l) (ix3 n j 1) = BitVec.ofNat 32 (lane (row l n) (j.castLE (by decide))).val := by
  pointwise [places, pairUp, colIdx]
  rw [topIdx_apply]
  exact unwrapped _ 16 (by omega)

/-- A small number is itself as a signed word. -/
theorem toInt_small (n : ℕ) (h : n < 2 ^ 31) : (BitVec.ofNat 32 n).toInt = n := by
  rw [BitVec.toInt_ofNat', Int.bmod_eq_of_le] <;> omega

/-- Gate `j` of token `n` lands at that token's row and its chosen lane. -/
theorem lands (l : FVec Ideal S2048x16 .f32) (m n : Fin 2048) (j : Fin 12) (e : Fin 16) :
    scatter_S2048x16_S2048x12x2_S2048x12_n_01_01_2.resultIdx? (ix2 m j) (places (F := Ideal) (topIdx l)) = some (ix2 n e)
      ↔ m = n ∧ lane (row l m) (j.castLE (by decide)) = e := by
  refine (Routing.scatter_lands2 scatter_S2048x16_S2048x12x2_S2048x12_n_01_01_2 rfl rfl rfl _ m j n e).trans ?_
  rw [show (places (F := Ideal) (topIdx l)) (ValueIdx.ix3 m j 0) = _ from places_row (topIdx l) m j,
    show (places (F := Ideal) (topIdx l)) (ValueIdx.ix3 m j 1) = _ from places_lane l m j, toInt_small _ (by omega), toInt_small _ (by omega)]
  simp only [Nat.cast_inj, Fin.ext_iff]

/-- The gate of a chosen lane is its softmax entry. -/
theorem gates_chosen (l : FVec Ideal S2048x16 .f32) (n : Fin 2048) (j : Fin 12) :
    gates (topIdx l) (softmax (topVals l)) (ix2 n (lane (row l n) (j.castLE (by decide)))) = soft (row l n) j := by
  unfold gates
  refine Routing.scatter_set_hit _ _ _ _ _ _ (fun k hk => ?_) (ix2 n j) ((lands l n n j _).2 ⟨rfl, rfl⟩)
  idx_vars k
  obtain ⟨rfl, h⟩ := (lands l _ n _ _).1 hk
  have hj := Fin.castLE_injective _ ((lane_bijective _).1 h)
  rw [hj, softmax_apply]

/-- The gate of a lane that is not chosen is zero. -/
theorem gates_rest (l : FVec Ideal S2048x16 .f32) (n : Fin 2048) (e : Fin 16)
    (h : ∀ j : Fin 12, lane (row l n) (j.castLE (by decide)) ≠ e) :
    gates (topIdx l) (softmax (topVals l)) (ix2 n e) = 0 := by
  unfold gates
  rw [Routing.scatter_set_miss _ _ _ _ _ fun k hk => ?_]
  · pointwise []
  · idx_vars k
    obtain ⟨rfl, hj⟩ := (lands l _ n _ _).1 hk
    exact h _ hj

/-- The load of an expert: how many tokens give it a positive gate. -/
theorem load_apply (g : FVec Ideal S2048x16 .f32) (e : Fin 16) :
    load g (ix1 e) = ∑ n : Fin 2048, ((if 0 < g (ix2 n e) then 1 else 0 : ℕ) : EReal) := by
  pointwise [load]
  simp only [uitofp_bit]

/-- A hidden unit of an expert. -/
theorem hidden_apply (x : FVec Ideal S2048x1024 .f32) (w1 : FVec Ideal S16x1024x256 .f32) (b1 : FVec Ideal S16x256 .f32)
    (n : Fin 2048) (e : Fin 16) (h : Fin 256) :
    hidden x w1 b1 (ix3 n e h) = max ((∑ d : Fin 1024, x (ix2 n d) * w1 (ix3 e d h)) + b1 (ix2 e h)) 0 := by
  pointwise [hidden]

/-- The experts' outputs mixed by the gates. -/
theorem mixed_apply (g : FVec Ideal S2048x16 .f32) (h : FVec Ideal S2048x16x256 .f32) (w2 : FVec Ideal S16x256x1024 .f32)
    (b2 : FVec Ideal S16x1024 .f32) (n : Fin 2048) (d : Fin 1024) :
    mixed g h w2 b2 (ix2 n d)
      = ∑ e : Fin 16, g (ix2 n e) * ((∑ k : Fin 256, w2 (ix3 e k d) * h (ix3 n e k)) + b2 (ix2 e d)) := by
  pointwise [mixed]

/-- The output layer. -/
theorem output_apply (x mx : FVec Ideal S2048x1024 .f32) (wo : FVec Ideal S1024x1000 .f32) (bo : FVec Ideal S1000 .f32)
    (n : Fin 2048) (o : Fin 1000) :
    output x mx wo bo (ix2 n o)
      = (∑ d : Fin 1024, (max (mx (ix2 n d)) 0 + x (ix2 n d)) * wo (ix2 d o)) + bo (ix1 o) := by
  pointwise [output]

end Cert.MoE.Ref

end
-- ==== Proof.Equation.lean ====
/-
  The equation at one row: on real logits the kernel's gates are the reference's, real and not negative; and the sum over
  experts and hidden units with the gate inside is the sum with the gate outside.
-/
module

public import proofs.«01_k».proof.Proof.BlockVal
public import proofs.«01_k».proof.Proof.RefVal

@[expose] public section

noncomputable section

namespace Cert.MoE

open Idealize.ShloMosaic

variable (f : Fin 16 → ℝ)

/-- A row of real logits as extended reals. -/
abbrev reals : Fin 16 → EReal := fun e => (f e : EReal)

/-- The greatest of a row of real logits is real. -/
theorem max_real : ∃ M : ℝ, Finset.univ.fold max ⊥ (reals f) = (M : EReal) := by
  refine ⟨f (lane (reals f) ⟨0, by decide⟩), le_antisymm ?_ ?_⟩
  · rw [Finset.fold_max_le]
    exact ⟨bot_le, fun e _ => le_lane_first (reals f) (by decide) e⟩
  · exact (Finset.le_fold_max _).mpr (Or.inr ⟨_, Finset.mem_univ _, le_rfl⟩)

/-- The exponential of a difference of reals. -/
theorem exp_sub_real (a M : ℝ) : Ideal.exp ((a : EReal) - (M : EReal)) = (Real.exp (a - M) : EReal) := by
  rw [← EReal.coe_sub, Ideal.exp_coe]

/-- A sum of reals in the extended reals. -/
theorem sum_real {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The kernel's denominator is the sum over the chosen lanes. -/
theorem denominator (l : Fin 16 → EReal) :
    (∑ k : Fin 16, ((if rank l k < 12 then 1 else 0 : ℕ) : EReal) * Ideal.exp (l k - Finset.univ.fold max ⊥ l))
      = ∑ i : Fin 12, Ideal.exp (l (lane l (i.castLE (by decide))) - Finset.univ.fold max ⊥ l) := by
  rw [← sum_chosen l (m := 12) (by decide) fun k => Ideal.exp (l k - Finset.univ.fold max ⊥ l)]
  refine Finset.sum_congr rfl fun k _ => ?_
  split <;> simp

/-- On real logits the denominator is a positive real. -/
theorem denominator_real : ∃ S : ℝ, 0 < S ∧
    (∑ i : Fin 12, Ideal.exp (reals f (lane (reals f) (i.castLE (by decide))) - Finset.univ.fold max ⊥ (reals f))) = (S : EReal) := by
  obtain ⟨M, hM⟩ := max_real f
  refine ⟨∑ i : Fin 12, Real.exp (f (lane (reals f) (i.castLE (by decide))) - M), ?_, ?_⟩
  · exact Finset.sum_pos (fun i _ => Real.exp_pos _) ⟨0, Finset.mem_univ _⟩
  · rw [← sum_real, hM]
    exact Finset.sum_congr rfl fun i _ => exp_sub_real _ _

/-- The kernel's gate of a chosen lane is the softmax entry. -/
theorem rowGate_chosen (l : Fin 16 → EReal) (j : Fin 12) : rowGate l (lane l (j.castLE (by decide))) = Ref.soft l j := by
  unfold rowGate Ref.soft
  rw [denominator, rank_lane, if_pos (by simp), Nat.cast_one, one_mul]

/-- The kernel's gate of a lane not chosen is zero, on real logits. -/
theorem rowGate_rest (e : Fin 16) (h : ¬ rank (reals f) e < 12) : rowGate (reals f) e = 0 := by
  unfold rowGate
  obtain ⟨S, hS, hs⟩ := denominator_real f
  rw [denominator, hs, if_neg h, Ideal.div_coe hS.ne']
  simp

/-- A lane of rank below twelve is one of the chosen. -/
theorem chosen_of_rank (l : Fin 16 → EReal) (e : Fin 16) (h : rank l e < 12) : ∃ j : Fin 12, lane l (j.castLE (by decide)) = e := by
  obtain ⟨i, rfl⟩ := (lane_bijective l).2 e
  rw [rank_lane] at h
  exact ⟨⟨i.val, h⟩, rfl⟩

/-- On real logits a gate is a real that is not negative. -/
theorem rowGate_real (e : Fin 16) : ∃ a : ℝ, 0 ≤ a ∧ rowGate (reals f) e = (a : EReal) := by
  by_cases h : rank (reals f) e < 12
  · obtain ⟨j, rfl⟩ := chosen_of_rank _ e h
    rw [rowGate_chosen]
    unfold Ref.soft
    obtain ⟨S, hS, hs⟩ := denominator_real f
    obtain ⟨M, hM⟩ := max_real f
    rw [hs, hM, exp_sub_real, Ideal.div_coe hS.ne', ← EReal.coe_mul]
    exact ⟨_, mul_nonneg (Real.exp_pos _).le (by positivity), rfl⟩
  · exact ⟨0, le_rfl, rowGate_rest f e h⟩

/-- The kernel's gates of a row of real logits are the reference's. -/
theorem gates_eq (l : FVec Ideal Cert.ReferenceIdeal.S2048x16 .f32) (n : Fin 2048) (h : Ref.row l n = reals f) (e : Fin 16) :
    Ref.gates (Ref.topIdx l) (Ref.softmax (Ref.topVals l)) (ix2 n e) = rowGate (Ref.row l n) e := by
  by_cases he : rank (Ref.row l n) e < 12
  · obtain ⟨j, rfl⟩ := chosen_of_rank _ e he
    rw [Ref.gates_chosen, rowGate_chosen]
  · rw [Ref.gates_rest l n e fun j hj => he (by rw [← hj, rank_lane]; exact j.isLt), h, rowGate_rest f e (h ▸ he)]

/-- A real factor that is not negative goes into a sum. -/
theorem mul_sum_real {ι : Type} (s : Finset ι) (a : ℝ) (ha : 0 ≤ a) (g : ι → EReal) :
    (a : EReal) * ∑ i ∈ s, g i = ∑ i ∈ s, (a : EReal) * g i := by
  classical
  induction s using Finset.induction_on with
  | empty => simp
  | insert b s hb ih =>
    rw [Finset.sum_insert hb, Finset.sum_insert hb,
      EReal.left_distrib_of_nonneg_of_ne_top (EReal.coe_nonneg.2 ha) (EReal.coe_ne_top a), ih]

/-- The gate outside an expert's sum is the gate inside it. -/
theorem gate_inside (a : ℝ) (ha : 0 ≤ a) (u w : Fin 256 → EReal) :
    (∑ k : Fin 256, (u k * (a : EReal)) * w k) = (a : EReal) * ∑ k : Fin 256, w k * u k := by
  rw [mul_sum_real _ a ha]
  refine Finset.sum_congr rfl fun k _ => ?_
  rw [mul_comm (u k), mul_assoc, mul_comm (u k)]

end Cert.MoE

end
-- ==== Proof.Values.lean ====
/-
  The equation at a grid point: each block the kernel leaves is the reference's array at that block's tokens.
-/
module

public import proofs.«01_k».proof.Proof.Host
public import proofs.«01_k».proof.Proof.OutVal
public import proofs.«01_k».proof.Proof.Equation

@[expose] public section

set_option maxRecDepth 16384

noncomputable section

namespace Cert.MoE

open Cert.KernelIdeal Cert.KernelIdeal.Gen
open Idealize.ShloMosaic Idealize.ShloMosaic.TcCoe

variable (m : (ℓ : Loc nD τ sig) → Buf (Elt Ideal) ℓ) (c : Dev nD)

/-! ## The arguments, by name -/

/-- The tokens. -/
abbrev X : FVec Ideal S2048x1024 .f32 := m ((c : Thread nD τ).loc main_arg0)
/-- The modality. -/
abbrev MO : IVec S_ 32 := m ((c : Thread nD τ).loc main_arg1)
/-- The gating matrices. -/
abbrev WG : FVec Ideal S2x1024x16 .f32 := m ((c : Thread nD τ).loc main_arg2)
/-- The experts' first layers. -/
abbrev W1 : FVec Ideal S16x1024x256 .f32 := m ((c : Thread nD τ).loc main_arg3)
/-- The first layers' biases. -/
abbrev B1 : FVec Ideal S16x256 .f32 := m ((c : Thread nD τ).loc main_arg4)
/-- The experts' second layers. -/
abbrev W2 : FVec Ideal S16x256x1024 .f32 := m ((c : Thread nD τ).loc main_arg5)
/-- The second layers' biases. -/
abbrev B2 : FVec Ideal S16x1024 .f32 := m ((c : Thread nD τ).loc main_arg6)
/-- The classifier. -/
abbrev WO : FVec Ideal S1024x1000 .f32 := m ((c : Thread nD τ).loc main_arg7)
/-- The classifier's bias. -/
abbrev BO : FVec Ideal S1000 .f32 := m ((c : Thread nD τ).loc main_arg8)

/-- What the precondition says of one device's arguments. -/
structure Good : Prop where
  b1 : ∀ i, B1 m c i = 0
  b2 : ∀ i, B2 m c i = 0
  bo : ∀ i, BO m c i = 0
  x : ∀ i, ∃ a : ℝ, X m c i = (a : EReal)
  wg : ∀ i, ∃ a : ℝ, WG m c i = (a : EReal)

/-- The reference's three results at the kernel's arguments. -/
def gatesR : FVec Ideal S2048x16 .f32 := Ref.gatesOf (X m c) (MO m c) (WG m c)
/-- The reference's load on one device. -/
def loadR : FVec Ideal S16 .f32 := Ref.load (gatesR m c)
/-- The reference's output on one device. -/
def outR : FVec Ideal S2048x1000 .f32 :=
  Ref.output (X m c) (Ref.mixed (gatesR m c) (Ref.hidden (X m c) (W1 m c) (B1 m c)) (W2 m c) (B2 m c)) (WO m c) (BO m c)

/-! ## The gates -/

/-- The selected gating matrix is real when both matrices are. -/
theorem gating_real (h : Good m c) (i : S1024x16.Idx) : ∃ a : ℝ, Ref.gating (F := Ideal) (MO m c) (WG m c) i = (a : EReal) := by
  unfold Ref.gating Ref.gatingAt
  exact h.wg _

/-- A token's logits, as the reference forms them. -/
abbrev logitRow (n : Fin 2048) : Fin 16 → EReal := Ref.row (Ref.logits (X m c) (Ref.gating (MO m c) (WG m c))) n

/-- They are real. -/
theorem logits_real (h : Good m c) (n : Fin 2048) : ∃ f : Fin 16 → ℝ, logitRow m c n = reals f := by
  have each (e : Fin 16) : ∃ a : ℝ, logitRow m c n e = (a : EReal) := by
    unfold logitRow Ref.row
    rw [Ref.logits_apply]
    choose fx hx using h.x
    choose fg hg using gating_real m c h
    refine ⟨∑ d : Fin 1024, fx (ix2 n d) * fg (ix2 d e), ?_⟩
    rw [← sum_real]
    refine Finset.sum_congr rfl fun d _ => ?_
    rw [hx, hg, EReal.coe_mul]
  choose f hf using each
  exact ⟨f, funext hf⟩

/-- A block's logits are its tokens'. -/
theorem row_block (t : Fin cfg0.N) (r : Fin 256) : row (lgt (iblk m c 0 t) (iblk m c 1 t)) r = logitRow m c (token t r) := by
  funext e
  show lgt (iblk m c 0 t) (iblk m c 1 t) (ix2 r e) = Ref.logits _ _ (ix2 (token t r) e)
  rw [lgt_apply, Ref.logits_apply]
  refine Finset.sum_congr rfl fun d _ => ?_
  rw [blk0, blk1, V_gating]

/-- The reference's gate is the kernel's gate of the token's logits. -/
theorem gatesR_apply (h : Good m c) (n : Fin 2048) (e : Fin 16) : gatesR m c (ix2 n e) = rowGate (logitRow m c n) e := by
  obtain ⟨f, hf⟩ := logits_real m c h n
  exact gates_eq f _ n hf e

/-- A block's gates are its tokens'. -/
theorem gates_block (h : Good m c) (t : Fin cfg0.N) (r : Fin 256) (e : Fin 16) :
    gates (iblk m c 0 t) (iblk m c 1 t) (ix2 r e) = gatesR m c (ix2 (token t r) e) := by
  rw [gates_apply, row_block, gatesR_apply m c h]

/-! ## The output -/

/-- Blocks that read as token `n`'s row, its gates and the weights give the reference's output of token `n`. -/
theorem out_of_reads (h : Good m c) (n : Fin 2048) (r : Fin 256) (x : FVec Ideal S256x1024 .f32) (wg : FVec Ideal S1024x16 .bf16)
    (w1 : FVec Ideal S1024x4096 .bf16) (w2 : FVec Ideal S4096x1024 .bf16) (wo : FVec Ideal S1024x1000 .bf16)
    (hx : ∀ d : Fin 1024, x (ix2 r d) = X m c (ix2 n d))
    (hg : ∀ e : Fin 16, gates (F := Ideal) x wg (ix2 r e) = gatesR m c (ix2 n e))
    (h1 : ∀ (i : Fin 1024) (e : Fin 16) (k : Fin 256), w1 (ix2 i ⟨e.val * 256 + k.val, by omega⟩) = W1 m c (ix3 e i k))
    (h2 : ∀ (e : Fin 16) (k : Fin 256) (d : Fin 1024), w2 (ix2 ⟨e.val * 256 + k.val, by omega⟩ d) = W2 m c (ix3 e k d))
    (ho : ∀ (d : Fin 1024) (o : Fin 1000), wo (ix2 d o) = WO m c (ix2 d o)) (o : Fin 1000) :
    outB x wg w1 w2 wo (ix2 r o) = outR m c (ix2 n o) := by
  unfold outR
  rw [outB_apply, Ref.output_apply, h.bo, add_zero]
  refine Finset.sum_congr rfl fun d _ => ?_
  rw [Ref.mixed_apply, ho, hx]
  refine congrArg (fun v : EReal => (max v 0 + X m c (ix2 n d)) * WO m c (ix2 d o)) (Finset.sum_congr rfl fun e _ => ?_)
  obtain ⟨f, hf⟩ := logits_real m c h n
  obtain ⟨a, ha, hga⟩ := rowGate_real f e
  rw [hg, gatesR_apply m c h, hf, hga, h.b2, add_zero, gate_inside a ha]
  refine congrArg _ (Finset.sum_congr rfl fun k _ => ?_)
  rw [Ref.hidden_apply, h.b1, add_zero, h2]
  simp only [hx, h1]

/-- A block's output is its tokens'. -/
theorem out_block (h : Good m c) (t : Fin cfg0.N) (r : Fin 256) (o : Fin 1000) :
    outB (iblk m c 0 t) (iblk m c 1 t) (iblk m c 2 t) (iblk m c 3 t) (iblk m c 4 t) (ix2 r o) = outR m c (ix2 (token t r) o) :=
  out_of_reads m c h (token t r) r (iblk m c 0 t) (iblk m c 1 t) (iblk m c 2 t) (iblk m c 3 t) (iblk m c 4 t)
    (fun d => blk0 m c t r d) (fun e => gates_block m c h t r e)
    (fun i e k => (blk2 m c t i _).trans (V_first m c i e k)) (fun e k d => (blk3 m c t _ d).trans (V_second m c e k d))
    (fun d o => (blk4 m c t d o).trans (V_out m c d o)) o

/-! ## The load -/

/-- Whether token number `q` gives expert `e` a positive gate, as a count. -/
def counted (e : Fin 16) (q : ℕ) : EReal :=
  if hq : q < 2048 then ((if 0 < gatesR m c (ix2 ⟨q, hq⟩ e) then 1 else 0 : ℕ) : EReal) else 0

/-- The count over a block. -/
theorem count_block (h : Good m c) (t : Fin cfg0.N) (e : Fin 16) :
    (∑ r : Fin 256, ((if 0 < gates (F := Ideal) (iblk m c 0 t) (iblk m c 1 t) (ix2 r e) then 1 else 0 : ℕ) : EReal))
      = ∑ r : Fin 256, counted m c e (t.val * 256 + r.val) := by
  refine Finset.sum_congr rfl fun r _ => ?_
  rw [gates_block m c h, counted, dif_pos (show t.val * 256 + r.val < 2048 from (token t r).isLt)]
  rfl

/-- After point `n` the load's window holds the count over the blocks so far. -/
theorem loadAt_apply (h : Good m c) (e : Fin 16) : ∀ (n : ℕ) (hn : n < cfg0.N),
    loadAt m c n hn (ix2 0 e) = ∑ t ∈ Finset.range (n + 1), ∑ r : Fin 256, counted m c e (t * 256 + r.val)
  | 0, hn => by
    rw [loadAt, load0_apply, count_block m c h, Finset.sum_range_one]
  | n + 1, hn => by
    rw [loadAt, loadS_apply, count_block m c h, loadAt_apply h e n, Finset.sum_range_succ _ (n + 1)]

/-- After the last point it holds the reference's load. -/
theorem load_last (h : Good m c) (hn : 7 < cfg0.N) (e : Fin 16) : loadAt m c 7 hn (ix2 0 e) = loadR m c (ix1 e) := by
  rw [loadAt_apply m c h, Finset.sum_range fun t => ∑ r : Fin 256, counted m c e (t * 256 + r.val)]
  unfold loadR
  rw [Ref.load_apply, Fin.sum_univ_univ_mul_add 8 256 (counted m c e)]
  refine Finset.sum_congr rfl fun n _ => ?_
  rw [counted, dif_pos n.isLt]

end Cert.MoE

end
-- ==== Proof.Arrays.lean ====
/-
  The kernel's three result arrays after its run: the blocks the flushes leave, put together.
-/
module

public import proofs.«01_k».proof.Proof.Values

@[expose] public section

set_option maxRecDepth 16384

noncomputable section

namespace Cert.MoE

open Cert.KernelIdeal Cert.KernelIdeal.Gen
open Idealize.ShloMosaic Idealize.ShloMosaic.TcCoe

variable (m : (ℓ : Loc nD τ sig) → Buf (Elt Ideal) ℓ) (c : Dev nD)

/-- The output array. -/
theorem arr_out (h : Good m c) : (dats m 0 c).arrAt 5 cfg0.N = outR m c := by
  refine (dats m 0 c).arrAt_eq_of_covers 5 _ (by decide +kernel) fun t hf y => ?_
  blk_simp
  idx_vars y
  refine (out_block m c h t y0 y1).trans (congrArg (outR m c) (funext fun a => Fin.ext ?_))
  fin_cases a <;> blk_simp [idx t, token] <;> rfl

/-- The gates' array. -/
theorem arr_gates (h : Good m c) : (dats m 0 c).arrAt 6 cfg0.N = gatesR m c := by
  refine (dats m 0 c).arrAt_eq_of_covers 6 _ (by decide +kernel) fun t hf y => ?_
  blk_simp
  idx_vars y
  refine (gates_block m c h t y0 y1).trans (congrArg (gatesR m c) (funext fun a => Fin.ext ?_))
  fin_cases a <;> blk_simp [idx t, token] <;> rfl

/-- The last grid point. -/
def lastPoint : Fin cfg0.N := ⟨7, by have : cfg0.N = 8 := N_0; omega⟩

/-- The load's array, before its reshape. -/
theorem arr_load (h : Good m c) : (dats m 0 c).arrAt 7 cfg0.N = fun j : S1x16.Idx => loadR m c (ix1 (j 1)) := by
  refine (dats m 0 c).arrAt_eq_of_after_last 7 lastPoint (by decide +kernel) _ fun j => ?_
  blk_simp
  idx_vars j
  rw [Subsingleton.elim j0 0]
  exact load_last m c h lastPoint.isLt j1

end Cert.MoE

end
-- ==== Proof.PreVal.lean ====
/-
  What the precondition says of the arrays, over the extended reals: the three biases are zero, and the tokens and the
  gating matrices are real.
-/
module

public import proofs.«01_k».proof.Proof.Pre
public import proofs.«01_k».proof.Proof.Bits
public import Idealize.ShloMosaic.Lib.Pointwise
public import Idealize.ShloMosaic.Lib.ReduceAll
public import Idealize.ShloMosaic.Lib.Affine

@[expose] public section

set_option maxRecDepth 16384

noncomputable section

namespace Cert.MoE

open Cert.Pre_zero_biases_finite_gating
open Idealize.ShloMosaic Idealize.ShloMosaic.TcCoe

variable [Facts]

/-- A bit that compares with zero, one everywhere: the array is zero. -/
theorem zero_of_bit {s : Shape} (b : FVec Ideal s .f32) (h : S_.BroadcastsInDim s (![] : Fin 0 → Fin s.rank)) (i : s.Idx)
    (e : cmpf .oeq b (broadcastInDim s ![] h (constant S_ .f32 0x00000000#32)) i = 1#1) : b i = 0 := by
  have hd : BitVec.ofBool (decide (b i = Ideal.ofBits .f32 0x00000000#32)) = 1#1 := e
  rw [show Ideal.ofBits .f32 0x00000000#32 = 0 by simp] at hd
  by_cases hb : b i = 0
  · exact hb
  · simp [hb] at hd

/-- A bit that compares the magnitude with infinity, one everywhere: the array is real. -/
theorem real_of_bit {s : Shape} (b : FVec Ideal s .f32) (h : S_.BroadcastsInDim s (![] : Fin 0 → Fin s.rank)) (i : s.Idx)
    (e : cmpf .olt (Host.absf b) (broadcastInDim s ![] h (constant S_ .f32 0x7F800000#32)) i = 1#1) : ∃ a : ℝ, b i = (a : EReal) := by
  have hd : BitVec.ofBool (decide (max (b i) (-(b i)) < Ideal.ofBits .f32 0x7F800000#32)) = 1#1 := e
  by_cases hb : max (b i) (-(b i)) < Ideal.ofBits .f32 0x7F800000#32
  · rw [lit_top] at hb
    revert hb
    generalize b i = v
    intro hb
    induction v using EReal.rec with
    | bot => simp at hb
    | top => simp at hb
    | coe a => exact ⟨a, rfl⟩
  · simp [hb] at hd

/-- What the precondition says. -/
theorem pre_parts (x : FVec Ideal S2048x1024 .f32) (mo : IVec S_ 32) (wg : FVec Ideal S2x1024x16 .f32) (w1 : FVec Ideal S16x1024x256 .f32)
    (b1 : FVec Ideal S16x256 .f32) (w2 : FVec Ideal S16x256x1024 .f32) (b2 : FVec Ideal S16x1024 .f32) (wo : FVec Ideal S1024x1000 .f32)
    (bo : FVec Ideal S1000 .f32) (h : fn x mo wg w1 b1 w2 b2 wo bo = fun _ => 1#1) :
    (∀ i, b1 i = 0) ∧ (∀ i, b2 i = 0) ∧ (∀ i, bo i = 0) ∧ (∀ i, ∃ a : ℝ, x i = (a : EReal)) ∧ (∀ i, ∃ a : ℝ, wg i = (a : EReal)) := by
  have e := congrFun h (Shape.Idx.first Facts.h_S_)
  simp only [fn, fn_part1] at e
  obtain ⟨e, eg⟩ := IntOp.andi_eq_one.1 e
  obtain ⟨e, ex⟩ := IntOp.andi_eq_one.1 e
  obtain ⟨e, eo⟩ := IntOp.andi_eq_one.1 e
  obtain ⟨e1, e2⟩ := IntOp.andi_eq_one.1 e
  haveI : Subsingleton S_.Idx := ⟨fun a b => funext fun k => k.elim0⟩
  exact ⟨fun i => zero_of_bit _ _ i (Host.reduce_andi_all _ _ _ _ _ e1 i), fun i => zero_of_bit _ _ i (Host.reduce_andi_all _ _ _ _ _ e2 i),
    fun i => zero_of_bit _ _ i (Host.reduce_andi_all _ _ _ _ _ eo i), fun i => real_of_bit _ _ i (Host.reduce_andi_all _ _ _ _ _ ex i),
    fun i => real_of_bit _ _ i (Host.reduce_andi_all _ _ _ _ _ eg i)⟩

end Cert.MoE

end
-- ==== Proof.Algebraic.lean ====
/-
  The equality of the two programs' results over the extended reals, where the biases are zero and the tokens and gating
  matrices are real.
-/
module

public import proofs.«01_k».proof.Defs
public import proofs.«01_k».proof.Proof.Arrays
public import proofs.«01_k».proof.Proof.PreVal

@[expose] public section

set_option maxRecDepth 16384

noncomputable section

namespace Cert.MoE

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The precondition, read on one device. -/
theorem good_of_pre [Cert.Pre_zero_biases_finite_gating.Facts] (h : Cert.Pre_KernelIdeal_zero_biases_finite_gating m) (c : Dev nD) : Good m c := by
  obtain ⟨h1, h2, h3, h4, h5⟩ := pre_parts _ _ _ _ _ _ _ _ _ (h c)
  exact ⟨h1, h2, h3, h4, h5⟩

/-- The load's result: the load's array, reshaped after the launch. -/
theorem tail_load (c : Dev nD) (h : Good m c) :
    Pipeline.afterTail₀ cfgs (dats m) 0 (V0 m) [hostOps1] c main_v19 = loadR m c := by
  unfold Pipeline.afterTail₀
  show StableHlo.after hostOps1 _ _ = _
  after_results_simp
  have e := Pipeline.withArrays_arr (cfgs 0).spec (by decide) c (V0 m c) (fun w => (dats m 0 c).arrAt w (cfgs 0).N) 7
  refine (congrArg (fun a : FVec Ideal S1x16 .f32 => shapeCast S16 a shapeCasts_S1x16_S16) (e.trans (arr_load m c h))).trans ?_
  funext j
  idx_vars j
  pointwise []

/-- The kernel's run: its three results are the reference's functions of its arguments, which are unchanged. -/
theorem kernel_run (hg : ∀ c, Good m c) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v18_0) = outR m c
      ∧ r.2.mem ((c.tc : Thread nD τ).loc main_v18_1) = gatesR m c
      ∧ r.2.mem ((c.tc : Thread nD τ).loc main_v19) = loadR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have rest : ∀ {r} (h : Pipeline.FramePost cfgs (dats m) 0 (Pipeline.afterTail₀ cfgs (dats m) 0 (V0 m) [hostOps1]) r) (c : Dev nD) (b : Ref sig .tc)
      (hb : b ∈ Pipeline.restRefs sig spec0) (hW : Pipeline.afterTail₀ cfgs (dats m) 0 (V0 m) [hostOps1] c b = m ((c : Thread nD τ).loc b)),
      r.2.mem ((c.tc : Thread nD τ).loc b) = m ((c.tc : Thread nD τ).loc b) := fun h c b hb hW => ((h c).2 b hb).trans hW
  exact (θ_run defs _ _).mono (fun _ h c =>
    ⟨((h.1 c).1 5).trans (arr_out m c (hg c)), ((h.1 c).1 6).trans (arr_gates m c (hg c)),
      ((h.1 c).2 main_v19 (Pipeline.mem_restRefs_of main_v19 (by decide) (by decide))).trans (tail_load m c (hg c)),
      ((h.1 c).1 0).trans (((dats m 0 c).arrAt_in 0 rfl _).trans (V_main_arg0 m c)),
      rest h.1 c _ (Pipeline.mem_restRefs_of main_arg1 (by decide) (by decide)) (W_main_arg1 m _ c), rest h.1 c _ (Pipeline.mem_restRefs_of main_arg2 (by decide) (by decide)) (W_main_arg2 m _ c),
      rest h.1 c _ (Pipeline.mem_restRefs_of main_arg3 (by decide) (by decide)) (W_main_arg3 m _ c), rest h.1 c _ (Pipeline.mem_restRefs_of main_arg4 (by decide) (by decide)) (W_main_arg4 m _ c),
      rest h.1 c _ (Pipeline.mem_restRefs_of main_arg5 (by decide) (by decide)) (W_main_arg5 m _ c), rest h.1 c _ (Pipeline.mem_restRefs_of main_arg6 (by decide) (by decide)) (W_main_arg6 m _ c),
      rest h.1 c _ (Pipeline.mem_restRefs_of main_arg7 (by decide) (by decide)) (W_main_arg7 m _ c), rest h.1 c _ (Pipeline.mem_restRefs_of main_arg8 (by decide) (by decide)) (W_main_arg8 m _ c)⟩)
    (run_main m ρ)

/-- The two programs' results are equal. -/
theorem algebraic [Cert.Pre_zero_biases_finite_gating.Facts] : Cert.algebraic_KernelIdeal_ReferenceIdeal_pre_zero_biases_finite_gating := by
  intro m g m' g' hp he
  refine ⟨fun c => outR m c, fun c => gatesR m c, fun c => loadR m c, kernel_run m g fun c => good_of_pre m hp c, ?_⟩
  refine (θ_run Cert.ReferenceIdeal.defs _ _).mono (fun r h c => ?_) (Cert.MoE.Ref.run (F := Ideal) m' g')
  obtain ⟨e0, e1, e2, e3, e4, e5, e6, e7, e8⟩ := he c
  obtain ⟨h0, h1, h2, hargs⟩ := h c
  refine ⟨h0.trans ?_, h1.trans ?_, h2.trans ?_, hargs⟩
  · rw [e0, e1, e2, e3, e4, e5, e6, e7, e8]; rfl
  · rw [e0, e1, e2]; rfl
  · rw [e0, e1, e2]; rfl

end Cert.MoE

end
-- ==== Proof.lean ====
/-
  The certificate: the frames of the kernel, its idealized copy and the reference, the idealization, and the equality
  of the two programs' results.
-/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

/-- Everything claimed. -/
theorem claim : Cert.Claim :=
  ⟨Cert.Kernel.Gen.facts, Cert.KernelIdeal.Gen.facts, Cert.ReferenceIdeal.Gen.facts, Cert.MoE.preFacts,
    Cert.MoE.frame_kernel, Cert.MoE.frame_ideal, @Cert.MoE.frame_ideal_pre Cert.MoE.preFacts, Cert.MoE.frame_reference,
    @Cert.MoE.frame_reference_pre Cert.MoE.preFacts, trivial, @Cert.MoE.algebraic Cert.MoE.preFacts⟩

end Cert.Proof

end
